-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_range [hPre_exact_range : Cert.Pre_exact_range.Facts] (m : (ℓ : Loc Cert.KernelIdeal.nD Cert.KernelIdeal.τ Cert.KernelIdeal.sig) → Buf (Elt Ideal) ℓ) : Prop :=
  ∀ c : Dev Cert.KernelIdeal.nD,
    (Cert.Pre_exact_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_range [hPre_exact_range : Cert.Pre_exact_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_exact_range [hKernelIdeal : Cert.KernelIdeal.Facts] [hPre_exact_range : Cert.Pre_exact_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_exact_range [hReferenceIdeal : Cert.ReferenceIdeal.Facts] [hPre_exact_range : Cert.Pre_exact_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv255" .f32 0x3B808081#32 ((1 / 255 : ℝ) : EReal)

def algebraic_KernelIdeal_ReferenceIdeal_pre_exact_range [hKernelIdeal : Cert.KernelIdeal.Facts] [hReferenceIdeal : Cert.ReferenceIdeal.Facts] [hPre_exact_range : Cert.Pre_exact_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_exact_range : Cert.Pre_exact_range.Facts),
    quiescent_Kernel (hKernel := hKernel)
    ∧ quiescent_KernelIdeal (hKernelIdeal := hKernelIdeal)
    ∧ quiescent_KernelIdeal_pre_exact_range (hKernelIdeal := hKernelIdeal) (hPre_exact_range := hPre_exact_range)
    ∧ quiescent_ReferenceIdeal (hReferenceIdeal := hReferenceIdeal)
    ∧ quiescent_ReferenceIdeal_pre_exact_range (hReferenceIdeal := hReferenceIdeal) (hPre_exact_range := hPre_exact_range)
    ∧ preserves_Kernel_KernelIdeal
    ∧ algebraic_KernelIdeal_ReferenceIdeal_pre_exact_range (hKernelIdeal := hKernelIdeal) (hReferenceIdeal := hReferenceIdeal) (hPre_exact_range := hPre_exact_range)
-- ==== Pre_exact_range.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩

class Facts : Prop where
  bcast_S_S128 : S_.BroadcastsInDim S128 (![] : Fin 0 → Fin S128.rank)
  reducesTo_S128_S_d0 : S128.ReducesTo [0] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S10000x10000 : S_.BroadcastsInDim S10000x10000 (![] : Fin 0 → Fin S10000x10000.rank)
  reducesTo_S10000x128_S128_d0 : S10000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S_d0_1 : S10000x128.ReducesTo [0, 1] S_
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x128 .f32) : FVec F S10000x128 .f32 :=
  let v0 : FVec F S10000x128 .f32 := Host.roundeven arg0
  v0

def fn_clip_1 {F : FTy → Type} [FloatOps F] (arg0 : FVec F S10000x128 .f32) (arg1 : FVec F S_ .f32) (arg2 : FVec F S_ .f32) : FVec F S10000x128 .f32 :=
  let v0 : FVec F S_ .f32 := id arg1
  let v1 : FVec F S10000x128 .f32 := broadcastInDim S10000x128 ![] bcast_S_S10000x128 v0
  let v2 : FVec F S10000x128 .f32 := maximumf v1 arg0
  let v3 : FVec F S_ .f32 := id arg2
  let v4 : FVec F S10000x128 .f32 := broadcastInDim S10000x128 ![] bcast_S_S10000x128 v3
  let v5 : FVec F S10000x128 .f32 := minimumf v4 v2
  v5

def fn_part4 {F : FTy → Type} [FloatOps F] (main_v62 : IVec S_ 1) (main_v67 : IVec S_ 1) : IVec S_ 1 :=
  let main_v68 : IVec S_ 1 := andi main_v62 main_v67
  main_v68

def fn_part3 {F : FTy → Type} [FloatOps F] (main_v28 : IVec S_ 1) (main_v35 : FVec F S10000x10000 .f32) (main_v36 : FVec F S10000x128 .f32) (main_v43 : FVec F S1x128 .f32) (main_v47 : FVec F S10000x128 .f32) (main_v49 : FVec F S1x128 .f32) : IVec S_ 1 :=
  let main_v50 : FVec F S10000x128 .f32 := broadcastInDim S10000x128 ![0, 1] bcast_S1x128_S10000x128_0_1 main_v43
  let main_v51 : FVec F S10000x128 .f32 := mulf main_v47 main_v50
  let main_v52 : FVec F S10000x128 .f32 := subf main_v36 main_v51
  let main_v53 : FVec F S10000x128 .f32 := broadcastInDim S10000x128 ![0, 1] bcast_S1x128_S10000x128_0_1 main_v49
  let main_v54 : FVec F S10000x128 .f32 := Host.divf main_v52 main_v53
  let main_v55 : FVec F S10000x128 .f32 := fn_round_0 (F := F) main_v54
  let main_cst_20 : FVec F S_ .f32 := constant S_ .f32 0xC3000000#32
  let main_cst_21 : FVec F S_ .f32 := constant S_ .f32 0x42FE0000#32
  let main_v56 : FVec F S10000x128 .f32 := fn_clip_1 (F := F) main_v55 main_cst_20 main_cst_21
  let main_v57 : FVec F S10000x128 .f32 := Host.absf main_v47
  let main_v58 : FVec F S10000x128 .f32 := (fun l r => Host.dotGeneral dot_S10000x10000_S10000x128_S10000x128_1_0_0_1_n_n none l r) main_v35 main_v57
  let main_cst_22 : FVec F S_ .f32 := constant S_ .f32 0x4C800000#32
  let main_v59 : FVec F S10000x128 .f32 := broadcastInDim S10000x128 ![] bcast_S_S10000x128 main_cst_22
  let main_v60 : IVec S10000x128 1 := cmpf .ole main_v58 main_v59
  let main_c_23 : IVec S_ 1 := constantI S_ 1 1#1
  let main_v61 : IVec S_ 1 := (fun x v => Host.reduce IntOp.andi x v reducesTo_S10000x128_S_d0_1 h_S_) main_v60 main_c_23
  let main_v62 : IVec S_ 1 := andi main_v28 main_v61
  let main_v63 : FVec F S10000x128 .f32 := Host.absf main_v56
  let main_v64 : FVec F S10000x128 .f32 := (fun l r => Host.dotGeneral dot_S10000x10000_S10000x128_S10000x128_1_0_0_1_n_n none l r) main_v35 main_v63
  let main_cst_24 : FVec F S_ .f32 := constant S_ .f32 0x4C800000#32
  let main_v65 : FVec F S10000x128 .f32 := broadcastInDim S10000x128 ![] bcast_S_S10000x128 main_cst_24
  let main_v66 : IVec S10000x128 1 := cmpf .ole main_v64 main_v65
  let main_c_25 : IVec S_ 1 := constantI S_ 1 1#1
  let main_v67 : IVec S_ 1 := (fun x v => Host.reduce IntOp.andi x v reducesTo_S10000x128_S_d0_1 h_S_) main_v66 main_c_25
  fn_part4 (F := F) main_v62 main_v67

def fn_part2 {F : FTy → Type} [FloatOps F] (main_arg0 : FVec F S10000x128 .f32) (main_arg2 : FVec F S128x128 .f32) (main_v28 : IVec S_ 1) (main_v32 : FVec F S10000x10000 .f32) : IVec S_ 1 :=
  let main_cst_13 : FVec F S_ .f32 := constant S_ .f32 0x43000000#32
  let main_v33 : FVec F S10000x10000 .f32 := broadcastInDim S10000x10000 ![] bcast_S_S10000x10000 main_cst_13
  let main_v34 : FVec F S10000x10000 .f32 := subf main_v32 main_v33
  let main_v35 : FVec F S10000x10000 .f32 := Host.absf main_v34
  let main_v36 : FVec F S10000x128 .f32 := (fun l r => Host.dotGeneral dot_S10000x128_S128x128_S10000x128_1_0_0_1_n_n none l r) main_arg0 main_arg2
  let main_v37 : FVec F S10000x128 .f32 := Host.absf main_v36
  let main_cst_14 : FVec F S_ .f32 := constant S_ .f32 0xFF800000#32
  let main_v38 : FVec F S128 .f32 := (fun x v => Host.reduce FloatOps.maximumf x v reducesTo_S10000x128_S128_d0 h_S_) main_v37 main_cst_14
  let main_v39 : FVec F S1x128 .f32 := broadcastInDim S1x128 ![1] bcast_S128_S1x128_1 main_v38
  let main_cst_15 : FVec F S_ .f32 := constant S_ .f32 0x0DA24260#32
  let main_v40 : FVec F S1x128 .f32 := broadcastInDim S1x128 ![] bcast_S_S1x128 main_cst_15
  let main_v41 : FVec F S1x128 .f32 := maximumf main_v39 main_v40
  let main_cst_16 : FVec F S_ .f32 := constant S_ .f32 0x42FE0000#32
  let main_v42 : FVec F S1x128 .f32 := broadcastInDim S1x128 ![] bcast_S_S1x128 main_cst_16
  let main_v43 : FVec F S1x128 .f32 := Host.divf main_v41 main_v42
  let main_v44 : FVec F S10000x128 .f32 := broadcastInDim S10000x128 ![0, 1] bcast_S1x128_S10000x128_0_1 main_v43
  let main_v45 : FVec F S10000x128 .f32 := Host.divf main_v36 main_v44
  let main_v46 : FVec F S10000x128 .f32 := fn_round_0 (F := F) main_v45
  let main_cst_17 : FVec F S_ .f32 := constant S_ .f32 0xC3000000#32
  let main_cst_18 : FVec F S_ .f32 := constant S_ .f32 0x42FE0000#32
  let main_v47 : FVec F S10000x128 .f32 := fn_clip_1 (F := F) main_v46 main_cst_17 main_cst_18
  let main_cst_19 : FVec F S_ .f32 := constant S_ .f32 0x437E0000#32
  let main_v48 : FVec F S1x128 .f32 := broadcastInDim S1x128 ![] bcast_S_S1x128 main_cst_19
  let main_v49 : FVec F S1x128 .f32 := Host.divf main_v43 main_v48
  fn_part3 (F := F) main_v28 main_v35 main_v36 main_v43 main_v47 main_v49

def fn_part1 {F : FTy → Type} [FloatOps F] (main_arg0 : FVec F S10000x128 .f32) (main_arg1 : FVec F S10000x10000 .f32) (main_arg2 : FVec F S128x128 .f32) (main_arg9 : FVec F S128 .f32) (main_arg10 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg10
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_cst_10 : FVec F S_ .f32 := constant S_ .f32 0x437F0000#32
  let main_v29 : FVec F S10000x10000 .f32 := broadcastInDim S10000x10000 ![] bcast_S_S10000x10000 main_cst_10
  let main_v30 : FVec F S10000x10000 .f32 := mulf main_arg1 main_v29
  let main_v31 : FVec F S10000x10000 .f32 := fn_round (F := F) main_v30
  let main_cst_11 : FVec F S_ .f32 := constant S_ .f32 0x00000000#32
  let main_cst_12 : FVec F S_ .f32 := constant S_ .f32 0x437F0000#32
  let main_v32 : FVec F S10000x10000 .f32 := fn_clip (F := F) main_v31 main_cst_11 main_cst_12
  fn_part2 (F := F) main_arg0 main_arg2 main_v28 main_v32

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S128 .f32 := Host.absf main_arg4
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg5
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg9 main_arg10 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S25x400x10000 : Shape := ⟨3, ![25, 400, 10000]⟩
abbrev S400x10000 : Shape := ⟨2, ![400, 10000]⟩
abbrev S1x400x10000 : Shape := ⟨3, ![1, 400, 10000]⟩
abbrev S400x128 : Shape := ⟨2, ![400, 128]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 29
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x64, .f32⟩
  | .hbm, ⟨19, _⟩ => ⟨S10000x128, .i8⟩
  | .hbm, ⟨20, _⟩ => ⟨S10000x128, .i8⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S25x400x10000, .fp8e4m3⟩
  | .hbm, ⟨25, _⟩ => ⟨S10000x128, .bf16⟩
  | .hbm, ⟨26, _⟩ => ⟨S10000x128, .bf16⟩
  | .hbm, ⟨27, _⟩ => ⟨S1x128, .f32⟩
  | .hbm, ⟨28, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .i8⟩
  | .local _ .vmem, ⟨3, _⟩ => ⟨S10000x128, .i8⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S400x10000, .f32⟩
  | .local _ .vmem, ⟨8, _⟩ => ⟨S400x10000, .f32⟩
  | .local _ .vmem, ⟨9, _⟩ => ⟨S10000x128, .i8⟩
  | .local _ .vmem, ⟨10, _⟩ => ⟨S10000x128, .i8⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S1x400x10000, .fp8e4m3⟩
  | .local _ .vmem, ⟨19, _⟩ => ⟨S1x400x10000, .fp8e4m3⟩
  | .local _ .vmem, ⟨20, _⟩ => ⟨S400x128, .bf16⟩
  | .local _ .vmem, ⟨21, _⟩ => ⟨S400x128, .bf16⟩
  | .local _ .vmem, ⟨22, _⟩ => ⟨S400x128, .bf16⟩
  | .local _ .vmem, ⟨23, _⟩ => ⟨S400x128, .bf16⟩
  | .local _ .vmem, ⟨24, _⟩ => ⟨S1x128, .f32⟩
  | .local _ .vmem, ⟨25, _⟩ => ⟨S1x400x10000, .fp8e4m3⟩
  | .local _ .vmem, ⟨26, _⟩ => ⟨S1x400x10000, .fp8e4m3⟩
  | .local _ .vmem, ⟨27, _⟩ => ⟨S10000x128, .bf16⟩
  | .local _ .vmem, ⟨28, _⟩ => ⟨S1x128, .f32⟩
  | .local _ .vmem, ⟨29, _⟩ => ⟨S400x128, .bf16⟩
  | .local _ .vmem, ⟨30, _⟩ => ⟨S400x128, .bf16⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x64, .f32⟩
  | .local _ .vmem, ⟨35, _⟩ => ⟨S1x64, .f32⟩
  | .local _ .vmem, ⟨36, _⟩ => ⟨S400x64, .f32⟩
  | .local _ .vmem, ⟨37, _⟩ => ⟨S400x64, .f32⟩
  | .local _ .vmem, ⟨38, _⟩ => ⟨S10000x64, .bf16⟩
  | .local _ .vmem, ⟨39, _⟩ => ⟨S1x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v9 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc2_scratch0 : Ref sig .tc := ⟨.vmem, 38, rfl⟩
abbrev cc2_scratch1 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem11_1 : DmaSem sig := 21
abbrev cc1_sem12_0 : DmaSem sig := 22
abbrev cc1_sem12_1 : DmaSem sig := 23
abbrev cc1_sem13_0 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37

abbrev nD : Nat := 1
abbrev τ : Topo := Topo.v5e

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x400x10000 .fp8e4m3 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S400x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S400x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![50], ![false]⟩

def k2_cond1 (i : grid2.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k2_off1 (i : grid2.Coords) : Fin 2 → Nat :=
  let arg0 : BitVec 32 := BitVec.ofNat 32 (i 0).val
  let c400_i32 : BitVec 32 := 400#32
  let v99 : BitVec 32 := Scalar.muli arg0 c400_i32
  let v100 : Index := Scalar.indexCast v99
  let c0_37 : Index := 0#32
  ![v100.toNat, 0]
def k2_cond3 (i : grid2.Coords) : BitVec 1 :=
  let arg0 : BitVec 32 := BitVec.ofNat 32 (i 0).val
  let c25_i32_0 : BitVec 32 := 25#32
  let v3 : BitVec 1 := Scalar.cmpi .sge arg0 c25_i32_0
  let v4 : BitVec 32 := Scalar.extui v3
  let c0_i32_1 : BitVec 32 := 0#32
  let v5 : BitVec 1 := Scalar.cmpi .ne v4 c0_i32_1
  v5

def cc2_transform_0 (i : grid2.Coords) : Fin 3 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 2 → Memref sig .tc .vmem S1x400x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S400x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "inv255" => some ((1 / 255 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x32x4 : Shape := ⟨3, ![10000, 32, 4]⟩
abbrev S10000x32 : Shape := ⟨2, ![10000, 32]⟩
abbrev S10000x32x1 : Shape := ⟨3, ![10000, 32, 1]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 196
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S_, .f32⟩
  | 13 => ⟨S10000x10000, .f32⟩
  | 14 => ⟨S10000x10000, .f32⟩
  | 15 => ⟨S10000x10000, .f32⟩
  | 16 => ⟨S_, .f32⟩
  | 17 => ⟨S_, .f32⟩
  | 18 => ⟨S_, .f32⟩
  | 19 => ⟨S10000x10000, .f32⟩
  | 20 => ⟨S10000x10000, .f32⟩
  | 21 => ⟨S_, .f32⟩
  | 22 => ⟨S10000x10000, .f32⟩
  | 23 => ⟨S10000x10000, .f32⟩
  | 24 => ⟨S_, .f32⟩
  | 25 => ⟨S10000x10000, .f32⟩
  | 26 => ⟨S10000x10000, .f32⟩
  | 27 => ⟨S10000x128, .f32⟩
  | 28 => ⟨S10000x128, .f32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S10000x128, .f32⟩
  | 39 => ⟨S10000x128, .f32⟩
  | 40 => ⟨S10000x128, .f32⟩
  | 41 => ⟨S_, .f32⟩
  | 42 => ⟨S_, .f32⟩
  | 43 => ⟨S_, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S_, .f32⟩
  | 50 => ⟨S1x128, .f32⟩
  | 51 => ⟨S1x128, .f32⟩
  | 52 => ⟨S10000x128, .f32⟩
  | 53 => ⟨S10000x128, .f32⟩
  | 54 => ⟨S10000x128, .f32⟩
  | 55 => ⟨S10000x128, .f32⟩
  | 56 => ⟨S10000x128, .f32⟩
  | 57 => ⟨S10000x128, .f32⟩
  | 58 => ⟨S_, .f32⟩
  | 59 => ⟨S_, .f32⟩
  | 60 => ⟨S_, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S10000x128, .f32⟩
  | 67 => ⟨S10000x128, .f32⟩
  | 68 => ⟨S10000x128, .f32⟩
  | 69 => ⟨S10000x128, .f32⟩
  | 70 => ⟨S10000x128, .f32⟩
  | 71 => ⟨S10000x128, .f32⟩
  | 72 => ⟨S1x128, .f32⟩
  | 73 => ⟨S10000x128, .f32⟩
  | 74 => ⟨S10000x128, .f32⟩
  | 75 => ⟨S_, .f32⟩
  | 76 => ⟨S10000x128, .f32⟩
  | 77 => ⟨S10000x128, .f32⟩
  | 78 => ⟨S10000x32x4, .f32⟩
  | 79 => ⟨S_, .f32⟩
  | 80 => ⟨S10000x32, .f32⟩
  | 81 => ⟨S10000x32x1, .f32⟩
  | 82 => ⟨S_, .f32⟩
  | 83 => ⟨S10000x32x1, .f32⟩
  | 84 => ⟨S10000x32x1, .f32⟩
  | 85 => ⟨S_, .i32⟩
  | 86 => ⟨S_, .f32⟩
  | 87 => ⟨S10000x32, .f32⟩
  | 88 => ⟨S10000x32x1, .f32⟩
  | 89 => ⟨S_, .f32⟩
  | 90 => ⟨S10000x32x1, .f32⟩
  | 91 => ⟨S10000x32x1, .f32⟩
  | 92 => ⟨S10000x32x4, .f32⟩
  | 93 => ⟨S10000x32x4, .f32⟩
  | 94 => ⟨S10000x32x4, .f32⟩
  | 95 => ⟨S_, .f32⟩
  | 96 => ⟨S_, .f32⟩
  | 97 => ⟨S_, .f32⟩
  | 98 => ⟨S_, .f32⟩
  | 99 => ⟨S10000x32, .f32⟩
  | 100 => ⟨S10000x32x1, .f32⟩
  | 101 => ⟨S10000x32x1, .f32⟩
  | 102 => ⟨S10000x32x1, .f32⟩
  | 103 => ⟨S_, .f32⟩
  | 104 => ⟨S_, .i1⟩
  | 105 => ⟨S_, .f32⟩
  | 106 => ⟨S_, .f32⟩
  | 107 => ⟨S10000x32x1, .f32⟩
  | 108 => ⟨S10000x32x1, .f32⟩
  | 109 => ⟨S10000x32x4, .f32⟩
  | 110 => ⟨S10000x32x4, .f32⟩
  | 111 => ⟨S_, .f32⟩
  | 112 => ⟨S10000x32x1, .f32⟩
  | 113 => ⟨S10000x32x1, .f32⟩
  | 114 => ⟨S10000x32x1, .f32⟩
  | 115 => ⟨S10000x32x4, .f32⟩
  | 116 => ⟨S10000x32x4, .f32⟩
  | 117 => ⟨S10000x128, .f32⟩
  | 118 => ⟨S1x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S10000x128, .f32⟩
  | 125 => ⟨S10000x128, .f32⟩
  | 126 => ⟨S1x128, .f32⟩
  | 127 => ⟨S10000x128, .f32⟩
  | _ => ⟨S10000x128, .f32⟩

abbrev hbmTy0_1 (i : Nat) : BufTy := match i % 128 with
  | 0 => ⟨S10000x128, .f32⟩
  | 1 => ⟨S10000x32x4, .f32⟩
  | 2 => ⟨S_, .f32⟩
  | 3 => ⟨S10000x32, .f32⟩
  | 4 => ⟨S10000x32x1, .f32⟩
  | 5 => ⟨S_, .f32⟩
  | 6 => ⟨S10000x32x1, .f32⟩
  | 7 => ⟨S10000x32x1, .f32⟩
  | 8 => ⟨S_, .i32⟩
  | 9 => ⟨S_, .f32⟩
  | 10 => ⟨S10000x32, .f32⟩
  | 11 => ⟨S10000x32x1, .f32⟩
  | 12 => ⟨S_, .f32⟩
  | 13 => ⟨S10000x32x1, .f32⟩
  | 14 => ⟨S10000x32x1, .f32⟩
  | 15 => ⟨S10000x32x4, .f32⟩
  | 16 => ⟨S10000x32x4, .f32⟩
  | 17 => ⟨S10000x32x4, .f32⟩
  | 18 => ⟨S_, .f32⟩
  | 19 => ⟨S_, .f32⟩
  | 20 => ⟨S_, .f32⟩
  | 21 => ⟨S_, .f32⟩
  | 22 => ⟨S10000x32, .f32⟩
  | 23 => ⟨S10000x32x1, .f32⟩
  | 24 => ⟨S10000x32x1, .f32⟩
  | 25 => ⟨S10000x32x1, .f32⟩
  | 26 => ⟨S_, .f32⟩
  | 27 => ⟨S_, .i1⟩
  | 28 => ⟨S_, .f32⟩
  | 29 => ⟨S_, .f32⟩
  | 30 => ⟨S10000x32x1, .f32⟩
  | 31 => ⟨S10000x32x1, .f32⟩
  | 32 => ⟨S10000x32x4, .f32⟩
  | 33 => ⟨S10000x32x4, .f32⟩
  | 34 => ⟨S_, .f32⟩
  | 35 => ⟨S10000x32x1, .f32⟩
  | 36 => ⟨S10000x32x1, .f32⟩
  | 37 => ⟨S10000x32x1, .f32⟩
  | 38 => ⟨S10000x32x4, .f32⟩
  | 39 => ⟨S10000x32x4, .f32⟩
  | 40 => ⟨S10000x128, .f32⟩
  | 41 => ⟨S1x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S10000x128, .f32⟩
  | 48 => ⟨S10000x64, .f32⟩
  | 49 => ⟨S10000x64, .f32⟩
  | 50 => ⟨S1x64, .f32⟩
  | 51 => ⟨S10000x64, .f32⟩
  | 52 => ⟨S10000x64, .f32⟩
  | 53 => ⟨S_, .f32⟩
  | 54 => ⟨S10000, .f32⟩
  | 55 => ⟨S_, .f32⟩
  | 56 => ⟨S10000, .f32⟩
  | 57 => ⟨S10000, .f32⟩
  | 58 => ⟨S10000x1, .f32⟩
  | 59 => ⟨S10000x64, .f32⟩
  | 60 => ⟨S10000x64, .f32⟩
  | 61 => ⟨S10000x64, .f32⟩
  | 62 => ⟨S_, .f32⟩
  | 63 => ⟨S10000, .f32⟩
  | 64 => ⟨S10000x1, .f32⟩
  | 65 => ⟨S10000x1, .f32⟩
  | 66 => ⟨S10000x64, .f32⟩
  | 67 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_cst_4 : Ref sig .tc := ⟨.hbm, 32, rfl⟩
abbrev main_v10 : Ref sig .tc := ⟨.hbm, 33, rfl⟩
abbrev main_v11 : Ref sig .tc := ⟨.hbm, 34, rfl⟩
abbrev main_cst_5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_6 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v17 : Ref sig .tc := ⟨.hbm, 48, rfl⟩
abbrev main_cst_8 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_9 : Ref sig .tc := ⟨.hbm, 58, rfl⟩
abbrev main_cst_10 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_11 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_12 : Ref sig .tc := ⟨.hbm, 79, rfl⟩
abbrev main_v39 : Ref sig .tc := ⟨.hbm, 80, rfl⟩
abbrev main_v40 : Ref sig .tc := ⟨.hbm, 81, rfl⟩
abbrev main_cst_13 : Ref sig .tc := ⟨.hbm, 82, rfl⟩
abbrev main_v41 : Ref sig .tc := ⟨.hbm, 83, rfl⟩
abbrev main_v42 : Ref sig .tc := ⟨.hbm, 84, rfl⟩
abbrev main_c : Ref sig .tc := ⟨.hbm, 85, rfl⟩
abbrev main_call6_cst : Ref sig .tc := ⟨.hbm, 86, rfl⟩
abbrev main_call6_v0 : Ref sig .tc := ⟨.hbm, 87, rfl⟩
abbrev main_call6_v1 : Ref sig .tc := ⟨.hbm, 88, rfl⟩
abbrev main_call6_cst_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_v5 : Ref sig .tc := ⟨.hbm, 93, rfl⟩
abbrev main_call6_v6 : Ref sig .tc := ⟨.hbm, 94, rfl⟩
abbrev main_call6_v7 : Ref sig .tc := ⟨.hbm, 95, rfl⟩
abbrev main_call6_cst_1 : Ref sig .tc := ⟨.hbm, 96, rfl⟩
abbrev main_call6_v8 : Ref sig .tc := ⟨.hbm, 97, rfl⟩
abbrev main_call6_cst_2 : Ref sig .tc := ⟨.hbm, 98, rfl⟩
abbrev main_call6_v9 : Ref sig .tc := ⟨.hbm, 99, rfl⟩
abbrev main_call6_v10 : Ref sig .tc := ⟨.hbm, 100, rfl⟩
abbrev main_call6_v11 : Ref sig .tc := ⟨.hbm, 101, rfl⟩
abbrev main_call6_v12 : Ref sig .tc := ⟨.hbm, 102, rfl⟩
abbrev main_call6_cst_3 : Ref sig .tc := ⟨.hbm, 103, rfl⟩
abbrev main_call6_v13 : Ref sig .tc := ⟨.hbm, 104, rfl⟩
abbrev main_call6_cst_4 : Ref sig .tc := ⟨.hbm, 105, rfl⟩
abbrev main_call6_call0_v0 : Ref sig .tc := ⟨.hbm, 106, rfl⟩
abbrev main_call6_call0_v1 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_14 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_15 : Ref sig .tc := ⟨.hbm, 130, rfl⟩
abbrev main_v64 : Ref sig .tc := ⟨.hbm, 131, rfl⟩
abbrev main_v65 : Ref sig .tc := ⟨.hbm, 132, rfl⟩
abbrev main_cst_16 : Ref sig .tc := ⟨.hbm, 133, rfl⟩
abbrev main_v66 : Ref sig .tc := ⟨.hbm, 134, rfl⟩
abbrev main_v67 : Ref sig .tc := ⟨.hbm, 135, rfl⟩
abbrev main_c_17 : Ref sig .tc := ⟨.hbm, 136, rfl⟩
abbrev main_call7_cst : Ref sig .tc := ⟨.hbm, 137, rfl⟩
abbrev main_call7_v0 : Ref sig .tc := ⟨.hbm, 138, rfl⟩
abbrev main_call7_v1 : Ref sig .tc := ⟨.hbm, 139, rfl⟩
abbrev main_call7_cst_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_v6 : Ref sig .tc := ⟨.hbm, 145, rfl⟩
abbrev main_call7_v7 : Ref sig .tc := ⟨.hbm, 146, rfl⟩
abbrev main_call7_cst_1 : Ref sig .tc := ⟨.hbm, 147, rfl⟩
abbrev main_call7_v8 : Ref sig .tc := ⟨.hbm, 148, rfl⟩
abbrev main_call7_cst_2 : Ref sig .tc := ⟨.hbm, 149, rfl⟩
abbrev main_call7_v9 : Ref sig .tc := ⟨.hbm, 150, rfl⟩
abbrev main_call7_v10 : Ref sig .tc := ⟨.hbm, 151, rfl⟩
abbrev main_call7_v11 : Ref sig .tc := ⟨.hbm, 152, rfl⟩
abbrev main_call7_v12 : Ref sig .tc := ⟨.hbm, 153, rfl⟩
abbrev main_call7_cst_3 : Ref sig .tc := ⟨.hbm, 154, rfl⟩
abbrev main_call7_v13 : Ref sig .tc := ⟨.hbm, 155, rfl⟩
abbrev main_call7_cst_4 : Ref sig .tc := ⟨.hbm, 156, rfl⟩
abbrev main_call7_call0_v0 : Ref sig .tc := ⟨.hbm, 157, rfl⟩
abbrev main_call7_call0_v1 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_cst_18 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_call8_cst : Ref sig .tc := ⟨.hbm, 181, rfl⟩
abbrev main_call8_v0 : Ref sig .tc := ⟨.hbm, 182, rfl⟩
abbrev main_call8_cst_0 : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_call8_v5 : Ref sig .tc := ⟨.hbm, 188, rfl⟩
abbrev main_call8_v6 : Ref sig .tc := ⟨.hbm, 189, rfl⟩
abbrev main_call8_cst_1 : Ref sig .tc := ⟨.hbm, 190, rfl⟩
abbrev main_call8_v7 : Ref sig .tc := ⟨.hbm, 191, rfl⟩
abbrev main_call8_v8 : Ref sig .tc := ⟨.hbm, 192, rfl⟩
abbrev main_call8_v9 : Ref sig .tc := ⟨.hbm, 193, rfl⟩
abbrev main_call8_v10 : Ref sig .tc := ⟨.hbm, 194, rfl⟩
abbrev main_v89 : Ref sig .tc := ⟨.hbm, 195, rfl⟩

abbrev nD : Nat := 1
abbrev τ : Topo := Topo.v5e

variable {F : FTy → Type} [FloatOps F]
-- ==== Proof.Run0.lean ====
/- The first pallas_call (the two-level quantised projection): what its body leaves, at any float instance. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The zero offset of a load or store of a whole two-axis buffer. -/
theorem off2 : (![0, 0] : Fin 2 → Nat) = fun _ => 0 := by funext a; fin_cases a <;> rfl
/-- The same for three axes. -/
theorem off3 : (![0, 0, 0] : Fin 3 → Nat) = fun _ => 0 := by funext a; fin_cases a <;> rfl

/-- After stores of which the last is of the whole buffer, the buffer reads that last payload. -/
theorem read_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- A whole buffer owned at its contents is owned at what the memref reads of them (`owns`, spelled out). -/
theorem owns_read (c : Thread nD τ) {sp : Space} {S : Shape} {e : EltTy} (a : Memref sig c.2.kind sp S e) (f : a.view.ty.Contents (Elt F)) :
    (a.view.loc c ↦[a.view.set]{fullShare} f : sProp 𝕄) ⊢ iprop(∃ g, ⌜a.view.read (Elt F) g = a.view.read (Elt F) f⌝ ∗ (a.view.loc c ↦[a.view.set]{fullShare} g)) := by
  iintro H
  iexists f
  isplitr; · ipureintro; rfl
  iexact H

/-- A load of a whole buffer reads what the buffer holds. -/
theorem load_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.ld_unit_zero h inb (v.read (Elt F) f) :)

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two input buffers, each whole and holding its block. -/
def ins0 (c : Dev nD) (a : Memref sig .tc .vmem S10000x128 .f32) (b : Memref sig .tc .vmem S128x128 .f32)
    (x : Vec F S10000x128 .f32) (w : Vec F S128x128 .f32) : sProp 𝕄 :=
  iprop(owns (c : Thread nD τ) a fullShare x ∗ owns (c : Thread nD τ) b fullShare w)

/-- The five output buffers, each whole: the two codes, their scales and the column offset. -/
def outs0 (c : Dev nD) (q1 q2 : Memref sig .tc .vmem S10000x128 .i8) (s1 s2 o : Memref sig .tc .vmem S1x128 .f32)
    (vq1 vq2 : Vec F S10000x128 .i8) (vs1 vs2 vo : Vec F S1x128 .f32) : sProp 𝕄 :=
  iprop(owns (c : Thread nD τ) q1 fullShare vq1 ∗ owns (c : Thread nD τ) q2 fullShare vq2 ∗ owns (c : Thread nD τ) s1 fullShare vs1
    ∗ owns (c : Thread nD τ) s2 fullShare vs2 ∗ owns (c : Thread nD τ) o fullShare vo)

/-- The column offset, of the support's codes and scales. -/
def offset0 (x : Vec F S10000x128 .f32) (w : Vec F S128x128 .f32) : Vec F S1x128 .f32 :=
  k0_pay1 (k0_pay5 x w) (k0_pay7 x w) (k0_pay9 x w) (k0_pay10 x w)

set_option maxHeartbeats 1000000 in
/-- The body on whole buffers: it reads the two inputs and leaves both codes, both scales and the column offset,
    whatever its outputs held. -/
theorem sound_kernel0 (c : Dev nD) (i : grid0.Coords) (a : Memref sig .tc .vmem S10000x128 .f32) (ha : a.IsWhole)
    (b : Memref sig .tc .vmem S128x128 .f32) (hb : b.IsWhole) (q1 : Memref sig .tc .vmem S10000x128 .i8) (hq1 : q1.IsWhole)
    (q2 : Memref sig .tc .vmem S10000x128 .i8) (hq2 : q2.IsWhole) (s1 : Memref sig .tc .vmem S1x128 .f32) (hs1 : s1.IsWhole)
    (s2 : Memref sig .tc .vmem S1x128 .f32) (hs2 : s2.IsWhole) (o : Memref sig .tc .vmem S1x128 .f32) (ho : o.IsWhole)
    (x : Vec F S10000x128 .f32) (w : Vec F S128x128 .f32) (u1 u2 : Vec F S10000x128 .i8) (u3 u4 u5 : Vec F S1x128 .f32) (K : PUnit → sProp 𝕄) :
    iprop(ins0 c a b x w ∗ outs0 c q1 q2 s1 s2 o u1 u2 u3 u4 u5
        ∗ (iprop(ins0 c a b x w ∗ outs0 c q1 q2 s1 s2 o (k0_pay6 x w) (k0_pay8 x w) (k0_pay9 x w) (k0_pay10 x w) (offset0 x w)) -∗ K ⟨⟩))
      ⊢ wp frame (wpE (defs₀ (F := F)) Variants.none c none) Set.univ (cc0__projq_kernel i a ha b hb q1 hq1 q2 hq2 s1 hs1 s2 hs2 o ho) K := by
  rw [cc0__projq_kernel_eq_skeleton]; unfold cc0__projq_kernel_skel
  rw [k0_part1_eq_skeleton]
  unfold ins0 outs0 owns
  iintro ⟨⟨⟨%fa, %ea, Ha⟩, ⟨%fb, %eb, Hb⟩⟩, ⟨⟨%f1, -, H1⟩, ⟨%f2, -, H2⟩, ⟨%f3, -, H3⟩, ⟨%f4, -, H4⟩, ⟨%f5, -, H5⟩⟩, Hk⟩
  subst ea eb
  sl_exec
  sl_step
  iapply Hk
  isplitl [Ha Hb]
  · isplitl [Ha]; · iapply (owns_read (c : Thread nD τ) a fa); iexact Ha
    iapply (owns_read (c : Thread nD τ) b fb); iexact Hb
  isplitl [H1]
  · iexists _; isplitr
    swap; · iexact H1
    ipureintro
    exact (read_last _ _ off2 _ _ _).trans (congrArg₂ k0_pay6 (load_whole a.view fa off2 _) (load_whole b.view fb off2 _))
  isplitl [H2]
  · iexists _; isplitr
    swap; · iexact H2
    ipureintro
    exact (read_last _ _ off2 _ _ _).trans (congrArg₂ k0_pay8 (load_whole a.view fa off2 _) (load_whole b.view fb off2 _))
  isplitl [H3]
  · iexists _; isplitr
    swap; · iexact H3
    ipureintro
    exact (read_last _ _ off2 _ _ _).trans (congrArg₂ k0_pay9 (load_whole a.view fa off2 _) (load_whole b.view fb off2 _))
  isplitl [H4]
  · iexists _; isplitr
    swap; · iexact H4
    ipureintro
    exact (read_last _ _ off2 _ _ _).trans (congrArg₂ k0_pay10 (load_whole a.view fa off2 _) (load_whole b.view fb off2 _))
  iexists _; isplitr
  swap; · iexact H5
  ipureintro
  exact (read_last _ _ off2 _ _ _).trans (congrArg₂ offset0 (load_whole a.view fa off2 _) (load_whole b.view fb off2 _))

/-- What pipeline 0 leaves on core `c`: an input's buffer holds its block, an output's the value above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (iblk0 V c 0 t) (iblk0 V c 1 t)
    | ⟨3, _⟩ => k0_pay8 (iblk0 V c 0 t) (iblk0 V c 1 t)
    | ⟨4, _⟩ => k0_pay9 (iblk0 V c 0 t) (iblk0 V c 1 t)
    | ⟨5, _⟩ => k0_pay10 (iblk0 V c 0 t) (iblk0 V c 1 t)
    | ⟨6, _⟩ => offset0 (iblk0 V c 0 t) (iblk0 V c 1 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-! What the body leaves in each output. -/

theorem after0_2 (c : Dev nD) (t : Fin cfg0.N) : (dat0 V c).after 2 t = k0_pay6 (iblk0 V c 0 t) (iblk0 V c 1 t) := by dsimp only [dat0]
theorem after0_3 (c : Dev nD) (t : Fin cfg0.N) : (dat0 V c).after 3 t = k0_pay8 (iblk0 V c 0 t) (iblk0 V c 1 t) := by dsimp only [dat0]
theorem after0_4 (c : Dev nD) (t : Fin cfg0.N) : (dat0 V c).after 4 t = k0_pay9 (iblk0 V c 0 t) (iblk0 V c 1 t) := by dsimp only [dat0]
theorem after0_5 (c : Dev nD) (t : Fin cfg0.N) : (dat0 V c).after 5 t = k0_pay10 (iblk0 V c 0 t) (iblk0 V c 1 t) := by dsimp only [dat0]
theorem after0_6 (c : Dev nD) (t : Fin cfg0.N) : (dat0 V c).after 6 t = offset0 (iblk0 V c 0 t) (iblk0 V c 1 t) := by dsimp only [dat0]

/-- An input's current buffer holds its block at every point, fetched there or kept from the point before. -/
theorem before_in0 (c : Dev nD) (w : Fin cfg0.W) (hw : (cfg0.win w).isOut = false) (t : Fin cfg0.N) (d) :
    (dat0 V c).before w t d = (dat0 V c).fetched w t d :=
  (dat0 V c).before_in_eq_fetched w hw (fun _ => by fin_cases w <;> rfl) (fun _ _ _ => by fin_cases w <;> rfl)
    (fun _ => by fin_cases w <;> first | rfl | exact absurd hw (by decide)) t d

/-- What the pipeline hands the body at point `t`: the one point's blocks in the inputs, anything in the outputs. -/
theorem handed0 (c : Dev nD) (t : Fin cfg0.N) :
    (bigSep Finset.univ fun w => iprop(∃ d, owns (c : Thread nD τ) ((cfg0.win w).stage (cfg0.slots t w)) fullShare ((dat0 V c).before w t d)) : sProp 𝕄)
      ⊢ iprop(ins0 c (st0_0 t) (st0_1 t) (iblk0 V c 0 t) (iblk0 V c 1 t)
          ∗ ∃ u1 u2 u3 u4 u5, outs0 c (st0_2 t) (st0_3 t) (st0_4 t) (st0_5 t) (st0_6 t) u1 u2 u3 u4 u5) := by
  rw [bigSep_W0]
  simp only [show ∀ d, (dat0 V c).before 0 t d = iblk0 V c 0 t from before_in0 V c 0 rfl t,
    show ∀ d, (dat0 V c).before 1 t d = iblk0 V c 1 t from before_in0 V c 1 rfl t]
  iintro ⟨⟨%da, Ha⟩, ⟨%db, Hb⟩, ⟨%d1, H1⟩, ⟨%d2, H2⟩, ⟨%d3, H3⟩, ⟨%d4, H4⟩, ⟨%d5, H5⟩⟩
  unfold ins0 outs0
  isplitl [Ha Hb]
  · isplitl [Ha]; · iexact Ha
    iexact Hb
  iexists _, _, _, _, _
  isplitl [H1]; · iexact H1
  isplitl [H2]; · iexact H2
  isplitl [H3]; · iexact H3
  isplitl [H4]; · iexact H4
  iexact H5

/-- The body at point `t`: the inputs stay, the outputs get their values. -/
theorem ran0 (c : Dev nD) (t : Fin cfg0.N) (u1 u2 : Vec F S10000x128 .i8) (u3 u4 u5 : Vec F S1x128 .f32) (K : PUnit → sProp 𝕄) :
    iprop(ins0 c (st0_0 t) (st0_1 t) (iblk0 V c 0 t) (iblk0 V c 1 t) ∗ outs0 c (st0_2 t) (st0_3 t) (st0_4 t) (st0_5 t) (st0_6 t) u1 u2 u3 u4 u5
        ∗ ((bigSep Finset.univ fun w => owns (c : Thread nD τ) ((cfg0.win w).stage (cfg0.slots t w)) fullShare ((dat0 V c).after w t)) -∗ K ⟨⟩))
      ⊢ wp frame (wpE (defs₀ (F := F)) Variants.none c none) Set.univ (bodyAt0 t) K := by
  rw [bigSep_W0]
  iintro ⟨Hi, Ho, Hk⟩
  iapply (sound_kernel0 c (grid0.coords t) _ _ _ _ _ _ _ _ _ _ _ _ _ _ (iblk0 V c 0 t) (iblk0 V c 1 t) u1 u2 u3 u4 u5 K)
  isplitl [Hi]; · iexact Hi
  isplitl [Ho]; · iexact Ho
  unfold ins0 outs0
  iintro ⟨⟨Ha, Hb⟩, H1, H2, H3, H4, H5⟩
  iapply Hk
  isplitl [Ha]; · iexact Ha
  isplitl [Hb]; · iexact Hb
  isplitl [H1]; · iexact H1
  isplitl [H2]; · iexact H2
  isplitl [H3]; · iexact H3
  isplitl [H4]; · iexact H4
  iexact H5

/-- The pipeline's body obligation: the invariant and the debts pass through. -/
theorem body_obligation0 (c : Dev nD) : BodyObligation (dat0 (F := F) V c) (defs₀ (F := F)) Variants.none () Set.univ := fun t => by
  show _ ⊢ wp frame _ _ (bodyAt0 t) _
  rw [show (dat0 V c).Φ t.castSucc = (dat0 V c).Φ t.succ from rfl, show (dat0 V c).owesAt () t.castSucc = (dat0 V c).owesAt () t.succ from rfl]
  iintro ⟨HΦ, HO, Hb⟩
  ihave H := (handed0 V c t) $$ Hb
  icases H with ⟨Hi, %u1, %u2, %u3, %u4, %u5, Ho⟩
  iapply (ran0 V c t u1 u2 u3 u4 u5 _)
  isplitl [Hi]; · iexact Hi
  isplitl [Ho]; · iexact Ho
  iintro Hw
  isplitl [HΦ]; · iexact HΦ
  isplitl [HO]; · iexact HO
  iexact Hw

end Cert.KernelIdeal.Hand

end
-- ==== Proof.Run1.lean ====
/- The second pallas_call (the quantised aggregation of layer 1, its group norm and the next support): what its body leaves, at any float instance. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Run0

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The block of hidden rows the body stores, from its nine input blocks. -/
def h1Blk (x0 : Vec F S400x10000 .f32) (x1 : Vec F S10000x128 .i8) (x2 : Vec F S10000x128 .i8) (x3 : Vec F S1x128 .f32) (x4 : Vec F S1x128 .f32) (x5 : Vec F S1x128 .f32) (x6 : Vec F S1x128 .f32) (x7 : Vec F S1x128 .f32) (x8 : Vec F S1x128 .f32) : FVec F S400x128 .bf16 :=
  k1_pay12 (k1_pay5 (k1_pay3 x0 x1 x2 x3 x4 x5) (k1_pay4 x6)) (k1_pay6 x7) (k1_pay7 x8) k1_pay8 (iota .tc S128x128 32 [1] iota_S128x128_d1_w32) 4#32 k1_pay9 k1_pay10 (Scalar.cmpi .sgt 4#32 0#32)

/-- The block of layer 2's support the body stores, from its ten input blocks. -/
def s2Blk (x0 : Vec F S400x10000 .f32) (x1 : Vec F S10000x128 .i8) (x2 : Vec F S10000x128 .i8) (x3 : Vec F S1x128 .f32) (x4 : Vec F S1x128 .f32) (x5 : Vec F S1x128 .f32) (x6 : Vec F S1x128 .f32) (x7 : Vec F S1x128 .f32) (x8 : Vec F S1x128 .f32) (x9 : Vec F S128x128 .f32) : FVec F S400x128 .bf16 :=
  k1_pay13 (k1_pay5 (k1_pay3 x0 x1 x2 x3 x4 x5) (k1_pay4 x6)) (k1_pay6 x7) (k1_pay7 x8) k1_pay8 (iota .tc S128x128 32 [1] iota_S128x128_d1_w32) 4#32 k1_pay9 k1_pay10 (Scalar.cmpi .sgt 4#32 0#32) x9

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The support's block at point `t`. -/
def s2At (c : Dev nD) (t : Fin cfg1.N) : FVec F S400x128 .bf16 :=
  s2Blk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

/-- The column sums of the support's blocks up to point `n`, as the body accumulates them. -/
def d2At (c : Dev nD) : (n : ℕ) → n < cfg1.N → Vec F S1x128 .f32
  | 0, h => k1_pay1 (s2At V c ⟨0, h⟩) k1_pay14
  | n + 1, h => k1_pay1 (s2At V c ⟨n + 1, h⟩) (d2At c n (Nat.lt_of_succ_lt h))

/-- The condition under which the body clears its accumulator, from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (fun t => by
    have ht : t.val < 25 := Nat.lt_of_lt_of_eq t.isLt N_1
    have e0 : (grid1.coords t 0).val = t.val / 1 % 25 := Pipeline.Grid.coords_val t 0 (by decide) rfl
    simp only [cond1_0, e0]
    word_cmp
   : ∀ t : Fin grid1.N, cond1_0 (grid1.coords t) ↔ t.val % 25 = 0)

/-- The ten input buffers, each whole and holding its block. -/
def ins1 (c : Dev nD)
    (arg1 : Memref sig .tc .vmem S400x10000 .f32) (arg2 : Memref sig .tc .vmem S10000x128 .i8) (arg3 : Memref sig .tc .vmem S10000x128 .i8)
    (arg4 : Memref sig .tc .vmem S1x128 .f32) (arg5 : Memref sig .tc .vmem S1x128 .f32) (arg6 : Memref sig .tc .vmem S1x128 .f32)
    (arg7 : Memref sig .tc .vmem S1x128 .f32) (arg8 : Memref sig .tc .vmem S1x128 .f32) (arg9 : Memref sig .tc .vmem S1x128 .f32)
    (arg10 : Memref sig .tc .vmem S128x128 .f32)
    (x0 : Vec F S400x10000 .f32) (x1 : Vec F S10000x128 .i8) (x2 : Vec F S10000x128 .i8) (x3 : Vec F S1x128 .f32) (x4 : Vec F S1x128 .f32)
    (x5 : Vec F S1x128 .f32) (x6 : Vec F S1x128 .f32) (x7 : Vec F S1x128 .f32) (x8 : Vec F S1x128 .f32) (x9 : Vec F S128x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9)

/-- What the accumulator starts from at a point: zeros where it is cleared, what it held elsewhere. -/
def start1 (i : grid1.Coords) (x : Vec F S1x128 .f32) : Vec F S1x128 .f32 := if cond1_0 i then k1_pay14 else x

set_option maxHeartbeats 1600000 in
/-- The body at any point: the block's column sums are added to what the accumulator starts from. -/
theorem sound_kernel1 (c : Dev nD) (E : Set ℕ) (i : grid1.Coords) (arg1 : Memref sig .tc .vmem S400x10000 .f32) (harg1 : arg1.IsWhole) (arg2 : Memref sig .tc .vmem S10000x128 .i8) (harg2 : arg2.IsWhole) (arg3 : Memref sig .tc .vmem S10000x128 .i8) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x400x10000 .fp8e4m3) (harg11 : arg11.IsWhole) (arg12 : Memref sig .tc .vmem S400x128 .bf16) (harg12 : arg12.IsWhole) (arg13 : Memref sig .tc .vmem S400x128 .bf16) (harg13 : arg13.IsWhole) (arg14 : Memref sig .tc .vmem S1x128 .f32) (harg14 : arg14.IsWhole)
    (x0 : Vec F S400x10000 .f32) (x1 : Vec F S10000x128 .i8) (x2 : Vec F S10000x128 .i8) (x3 : Vec F S1x128 .f32) (x4 : Vec F S1x128 .f32) (x5 : Vec F S1x128 .f32) (x6 : Vec F S1x128 .f32) (x7 : Vec F S1x128 .f32) (x8 : Vec F S1x128 .f32) (x9 : Vec F S128x128 .f32) (x13 : Vec F S1x128 .f32) (K : PUnit → sProp 𝕄) :
    iprop(ins1 c arg1 arg2 arg3 arg4 arg5 arg6 arg7 arg8 arg9 arg10 x0 x1 x2 x3 x4 x5 x6 x7 x8 x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x13
        ∗ (iprop(ins1 c arg1 arg2 arg3 arg4 arg5 arg6 arg7 arg8 arg9 arg10 x0 x1 x2 x3 x4 x5 x6 x7 x8 x9 ∗ owns (c : Thread nD τ) arg11 fullShare (k1_pay2 x0) ∗ owns (c : Thread nD τ) arg12 fullShare (h1Blk x0 x1 x2 x3 x4 x5 x6 x7 x8) ∗ owns (c : Thread nD τ) arg13 fullShare (s2Blk x0 x1 x2 x3 x4 x5 x6 x7 x8 x9) ∗ owns (c : Thread nD τ) arg14 fullShare (k1_pay1 (s2Blk x0 x1 x2 x3 x4 x5 x6 x7 x8 x9) (start1 i x13))) -∗ K ⟨⟩))
      ⊢ wp frame (wpE (defs₀ (F := F)) Variants.none c none) E (cc1__agg1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__agg1_kernel_eq_skeleton]; unfold cc1__agg1_kernel_skel
  simp only [k1_part1_eq_skeleton, k1_part2_eq_skeleton, k1_part3_eq_skeleton]
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨%f13, %hf13, H13⟩, Hk⟩
  subst hf0 hf1 hf2 hf3 hf4 hf5 hf6 hf7 hf8 hf9 hf13
  by_cases hc0 : cond1_0 i
  all_goals
    sl_exec (disch := first | sl_exact hc0)
    sl_step
    iapply Hk
    isplitl [H0 H1 H2 H3 H4 H5 H6 H7 H8 H9]
    · isplitl [H0]; · iapply (owns_read (c : Thread nD τ) arg1 f0); iexact H0
      isplitl [H1]; · iapply (owns_read (c : Thread nD τ) arg2 f1); iexact H1
      isplitl [H2]; · iapply (owns_read (c : Thread nD τ) arg3 f2); iexact H2
      isplitl [H3]; · iapply (owns_read (c : Thread nD τ) arg4 f3); iexact H3
      isplitl [H4]; · iapply (owns_read (c : Thread nD τ) arg5 f4); iexact H4
      isplitl [H5]; · iapply (owns_read (c : Thread nD τ) arg6 f5); iexact H5
      isplitl [H6]; · iapply (owns_read (c : Thread nD τ) arg7 f6); iexact H6
      isplitl [H7]; · iapply (owns_read (c : Thread nD τ) arg8 f7); iexact H7
      isplitl [H8]; · iapply (owns_read (c : Thread nD τ) arg9 f8); iexact H8
      iapply (owns_read (c : Thread nD τ) arg10 f9); iexact H9
    isplitl [H10]
    · iexists _; isplitr
      swap; · iexact H10
      ipureintro
      refine (read_last _ _ off3 _ _ _).trans ?_
      show k1_pay2 _ = _
      exact congrArg k1_pay2 (load_whole _ _ off2 _)
    isplitl [H11]
    · iexists _; isplitr
      swap; · iexact H11
      ipureintro
      refine (read_last _ _ off2 _ _ _).trans ?_
      show h1Blk _ _ _ _ _ _ _ _ _ = _
      congr 1 <;> exact load_whole _ _ off2 _
    isplitl [H12]
    · iexists _; isplitr
      swap; · iexact H12
      ipureintro
      refine (read_last _ _ off2 _ _ _).trans ?_
      show s2Blk _ _ _ _ _ _ _ _ _ _ = _
      congr 1 <;> exact load_whole _ _ off2 _
    iexists _; isplitr
    swap; · iexact H13
    ipureintro
    refine (read_last _ _ off2 _ _ _).trans ?_
    refine congrArg₂ k1_pay1 (show s2Blk _ _ _ _ _ _ _ _ _ _ = _ from ?_) ?_
    · congr 1 <;> exact load_whole _ _ off2 _
    · first
        | exact (View.readCov_unit_zero _ off2 _ _).trans (if_pos hc0).symm
        | exact (load_whole _ _ off2 _).trans (if_neg hc0).symm

/-- What pipeline 1 leaves on core `c`: an input's buffer holds its block, an output's the value above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay2 (iblk1 V c 0 t)
    | ⟨11, _⟩ => h1Blk (iblk1 V c 0 t) (iblk1 V c 1 t) (iblk1 V c 2 t) (iblk1 V c 3 t) (iblk1 V c 4 t) (iblk1 V c 5 t) (iblk1 V c 6 t) (iblk1 V c 7 t) (iblk1 V c 8 t)
    | ⟨12, _⟩ => s2At V c t
    | ⟨13, _⟩ => d2At V c t.val t.isLt
  Φ _ := Pipeline.ΦA spec1 c
  q _ := fullShare
  owed _ := 0

/-- The data's arrays are the entry contents. -/
theorem A_eq1 (c : Dev nD) (w : Fin cfg1.W) : (dat1 V c).A w = V c (Pipeline.arrRef spec1 w) := by
  dsimp only [dat1]

/-! What the body leaves in each output. -/

theorem after1_10 (c : Dev nD) (t : Fin cfg1.N) : (dat1 V c).after 10 t = k1_pay2 (iblk1 V c 0 t) := by dsimp only [dat1]
theorem after1_11 (c : Dev nD) (t : Fin cfg1.N) : (dat1 V c).after 11 t = h1Blk (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_12 (c : Dev nD) (t : Fin cfg1.N) : (dat1 V c).after 12 t = s2At V c t := by dsimp only [dat1]
theorem after1_13 (c : Dev nD) (t : Fin cfg1.N) : (dat1 V c).after 13 t = d2At V c t.val t.isLt := by dsimp only [dat1]

/-- An input's current buffer holds its block at every point, fetched there or kept from the point before. -/
theorem before_in1 (c : Dev nD) (w : Fin cfg1.W) (hw : (cfg1.win w).isOut = false) (t : Fin cfg1.N) (d) :
    (dat1 V c).before w t d = (dat1 V c).fetched w t d :=
  (dat1 V c).before_in_eq_fetched w hw (fun _ => by fin_cases w <;> first | rfl | exact absurd hw (by decide))
    (fun _ _ _ => by fin_cases w <;> rfl) (fun _ => by fin_cases w <;> first | rfl | exact absurd hw (by decide)) t d

/-- The accumulation at the first point. -/
theorem d2At_first (c : Dev nD) (t : Fin cfg1.N) (h0 : t.val % 25 = 0) : d2At V c t.val t.isLt = k1_pay1 (s2At V c t) k1_pay14 := by
  obtain ⟨n, hn⟩ := t
  have hN : n < 25 := lt_of_lt_of_eq hn (show cfg1.N = 25 from N_1)
  have : n = 0 := by dsimp only at h0; omega
  subst this; rfl

/-- The accumulation at a later point. -/
theorem d2At_later (c : Dev nD) (t : Fin cfg1.N) (h0 : ¬t.val % 25 = 0) :
    d2At V c t.val t.isLt = k1_pay1 (s2At V c t) (d2At V c (t.val - 1) (Nat.lt_of_le_of_lt (Nat.sub_le _ _) t.isLt)) := by
  obtain ⟨n, hn⟩ := t
  cases n with
  | zero => exact absurd (Nat.zero_mod _) h0
  | succ n => rfl

/-- At a later point the accumulator's buffer holds what the point before left. -/
theorem before1_13 (c : Dev nD) (t : Fin cfg1.N) (h0 : ¬t.val % 25 = 0) (d) :
    (dat1 V c).before 13 t d = d2At V c (t.val - 1) (Nat.lt_of_le_of_lt (Nat.sub_le _ _) t.isLt) := by
  have hN : t.val < 25 := lt_of_lt_of_eq t.isLt (show cfg1.N = 25 from N_1)
  rw [Dat.before_out_kept _ 13 rfl t (by omega) (Bool.eq_false_iff.mpr fun h => by have := (flush1_13 _).mp h; dsimp only at this; omega)
    (fun _ => rfl) (fun _ _ => rfl)]
  dsimp only [dat1]

/-- The accumulation at any point, from what the accumulator starts from there. -/
theorem d2At_step (c : Dev nD) (t : Fin cfg1.N) (d) :
    d2At V c t.val t.isLt = k1_pay1 (s2At V c t) (start1 (grid1.coords t) ((dat1 V c).before 13 t d)) := by
  by_cases h0 : t.val % 25 = 0
  · rw [d2At_first V c t h0, start1, if_pos ((hcond1_0 t).mpr h0)]
  · rw [d2At_later V c t h0, start1, if_neg fun h => h0 ((hcond1_0 t).mp h), before1_13 V c t h0]

/-- What the pipeline hands the body at point `t`. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it wants back. -/
def wanted1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- What the body is called with: the inputs hold their blocks. -/
def bodyPre1 (c : Dev nD) (t : Fin cfg1.N) : sProp 𝕄 :=
  iprop((dat1 V c).Φ t.castSucc ∗ (dat1 V c).owesAt () t.castSucc
    ∗ ins1 c (st1_0 t) (st1_1 t) (st1_2 t) (st1_3 t) (st1_4 t) (st1_5 t) (st1_6 t) (st1_7 t) (st1_8 t) (st1_9 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it returns: the inputs still hold them. -/
def bodyPost1 (c : Dev nD) (t : Fin cfg1.N) : sProp 𝕄 :=
  iprop((dat1 V c).Φ t.succ ∗ (dat1 V c).owesAt () t.succ
    ∗ ins1 c (st1_0 t) (st1_1 t) (st1_2 t) (st1_3 t) (st1_4 t) (st1_5 t) (st1_6 t) (st1_7 t) (st1_8 t) (st1_9 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- What is handed is what the body is called with. -/
theorem handed_pre1 (c : Dev nD) (t : Fin cfg1.N) : handed1 V c t ⊢ bodyPre1 V c t := by
  unfold handed1 bodyPre1 ins1
  simp only [show ∀ d, (dat1 V c).before 0 t d = iblk1 V c 0 t from before_in1 V c 0 rfl t,
    show ∀ d, (dat1 V c).before 1 t d = iblk1 V c 1 t from before_in1 V c 1 rfl t,
    show ∀ d, (dat1 V c).before 2 t d = iblk1 V c 2 t from before_in1 V c 2 rfl t,
    show ∀ d, (dat1 V c).before 3 t d = iblk1 V c 3 t from before_in1 V c 3 rfl t,
    show ∀ d, (dat1 V c).before 4 t d = iblk1 V c 4 t from before_in1 V c 4 rfl t,
    show ∀ d, (dat1 V c).before 5 t d = iblk1 V c 5 t from before_in1 V c 5 rfl t,
    show ∀ d, (dat1 V c).before 6 t d = iblk1 V c 6 t from before_in1 V c 6 rfl t,
    show ∀ d, (dat1 V c).before 7 t d = iblk1 V c 7 t from before_in1 V c 7 rfl t,
    show ∀ d, (dat1 V c).before 8 t d = iblk1 V c 8 t from before_in1 V c 8 rfl t,
    show ∀ d, (dat1 V c).before 9 t d = iblk1 V c 9 t from before_in1 V c 9 rfl t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, Hout⟩
  isplitl [HΦ]; · iexact HΦ
  isplitl [Ho]; · iexact Ho
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hout

/-- What the body returns is what is wanted back. -/
theorem post_wanted1 (c : Dev nD) (t : Fin cfg1.N) : bodyPost1 V c t ⊢ wanted1 V c t := by
  unfold bodyPost1 wanted1 ins1
  iintro ⟨HΦ, Ho, ⟨H0, H1, H2, H3, H4, H5, H6, H7, H8, H9⟩, Hout⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hout

set_option maxHeartbeats 1600000 in
/-- The body at any point, from what the pipeline hands it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_10, after1_11, after1_12, after1_13]
  iintro ⟨HΦ, Ho, HI, ⟨%d10, H10⟩, ⟨%d11, H11⟩, ⟨%d12, H12⟩, ⟨%d13, H13⟩⟩
  rw [d2At_step V c t d13]
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _)
  isplitl [HI]; · iexact HI
  isplitl [H10]; · iexists _; iexact H10
  isplitl [H11]; · iexists _; iexact H11
  isplitl [H12]; · iexists _; iexact H12
  isplitl [H13]; · iexact H13
  iintro ⟨HI, H10, H11, H12, H13⟩
  isplitl [HΦ]; · iexact HΦ
  isplitl [Ho]; · iexact Ho
  isplitl [HI]; · iexact HI
  isplitl [H10]; · iexact H10
  isplitl [H11]; · iexact H11
  isplitl [H12]; · iexact H12
  iexact H13

/-- The pipeline's body obligation at every point. -/
theorem body_obligation1 (c : Dev nD) : BodyObligation (dat1 (F := F) V c) (defs₀ (F := F)) Variants.none () Set.univ := fun t => by
  show _ ⊢ wp frame _ _ (bodyAt1 t) _
  rw [bigSep_W1, bigSep_W1]
  exact triple_restated (sound_body1 V c t) rfl (handed_pre1 V c t) fun _ => post_wanted1 V c t

end Cert.KernelIdeal.Hand

end
-- ==== Proof.Run2.lean ====
/- The third pallas_call (layers 2 and 3 fused over a grid of fifty points): what its body leaves, at any float instance. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Run1
public import Idealize.ShloMosaic.Lib.WritesUnit
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F] [Named F]

local notation "𝕄" => MT nD τ sig Unit (Elt F) ℕ (UR sig nD τ) ℕ

/-- The block of layer 2's rows after the group norm, from the first phase's input blocks. -/
def gn2Blk (x0 : Vec F S1x400x10000 .fp8e4m3) (x1 : Vec F S10000x128 .bf16) (x2 : Vec F S1x128 .f32) (x4 : Vec F S1x128 .f32) (x5 : Vec F S1x128 .f32) (x6 : Vec F S1x128 .f32) : FVec F S400x128 .f32 :=
  k2_pay12 (k2_pay6 x0 x1 x2 x4) (k2_pay7 x5) (k2_pay8 x6) k2_pay9 k2_pay10 k2_pay11 0#32

/-- The block of layer 3's support the first phase stores. -/
def s3Blk (x0 : Vec F S1x400x10000 .fp8e4m3) (x1 : Vec F S10000x128 .bf16) (x2 : Vec F S1x128 .f32) (x3 : Vec F S400x128 .bf16) (x4 : Vec F S1x128 .f32) (x5 : Vec F S1x128 .f32) (x6 : Vec F S1x128 .f32) (x7 : Vec F S128x64 .f32) : FVec F S400x64 .bf16 :=
  k2_pay2 (gn2Blk x0 x1 x2 x4 x5 x6) x3 x7

/-- The column sums of layer 3's support after one more block. -/
def d3Blk (x0 : Vec F S1x400x10000 .fp8e4m3) (x1 : Vec F S10000x128 .bf16) (x2 : Vec F S1x128 .f32) (x3 : Vec F S400x128 .bf16) (x4 : Vec F S1x128 .f32) (x5 : Vec F S1x128 .f32) (x6 : Vec F S1x128 .f32) (x7 : Vec F S128x64 .f32) (a : Vec F S1x64 .f32) : FVec F S1x64 .f32 :=
  k2_pay4 (gn2Blk x0 x1 x2 x4 x5 x6) x3 x7 a

/-- A buffer of 10000 rows with the block `s` of 400 rows put in at row `400 o`. -/
def rowsPut (o : ℕ) (s : FVec F S400x64 .bf16) (x : Vec F S10000x64 .bf16) : Vec F S10000x64 .bf16 := fun y =>
  if h : 400 * o ≤ (y 0).val ∧ (y 0).val < 400 * o + 400 then s (ix2 ⟨(y 0).val - 400 * o, by omega⟩ (y 1)) else x y

/-- A buffer read after one store of 400 rows at row `400 o` is `rowsPut`. -/
theorem read_rows {sp : Space} {κ : Kind} (v : View sig κ sp S10000x64 .bf16) (f : v.ty.Contents (Elt F)) (o : ℕ) {off : Fin 2 → ℕ} (hoff : off = ![400 * o, 0])
    (inb : ∀ a, off a + S400x64.size a ≤ S10000x64.size a) (w : (Rect.unit (s := S10000x64) off S400x64.size inb).shape.Idx → Elt F .bf16) :
    v.read (Elt F) (v.writes (Elt F) f [(⟨Rect.unit (s := S10000x64) off S400x64.size inb, w⟩ : View.Piece (Elt F) S10000x64 .bf16)])
      = rowsPut o w (v.read (Elt F) f) := by
  funext y
  unfold rowsPut
  split
  · next h =>
    exact View.read_writes_cons_rows_of_mem v f inb w [] y _ hoff (by dsimp only [ix2]; omega) rfl
  · next h =>
    exact View.read_writes_cons_rows_of_not_mem (W := 400) v f inb w [] y hoff rfl (by omega)

/-- The condition under which the first phase clears its accumulator, from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The first phase runs at the first twenty-five points. -/
theorem hcond2_1 : ∀ t : Fin cfg2.N, k2_cond1 (grid2.coords t) = 1#1 ↔ t.val < 25 :=
  (by decide +kernel : ∀ t : Fin grid2.N, k2_cond1 (grid2.coords t) = 1#1 ↔ t.val < 25)
/-- The second phase runs at the others. -/
theorem hcond2_3 : ∀ t : Fin cfg2.N, k2_cond3 (grid2.coords t) = 1#1 ↔ 25 ≤ t.val :=
  (by decide +kernel : ∀ t : Fin grid2.N, k2_cond3 (grid2.coords t) = 1#1 ↔ 25 ≤ t.val)
/-- The output is written back at the points of the second phase. -/
theorem hflush2_9 : ∀ t : Fin cfg2.N, (cfg2.win 9).flush t = decide (25 ≤ t.val) :=
  (by decide +kernel : ∀ t : Fin grid2.N, win2_9.flush t = decide (25 ≤ t.val))
/-- The output is not stored in the first phase. -/
theorem hidle2_9 : ∀ t : Fin cfg2.N, cfg2.idle 9 (cfg2.grid.coords t) = decide (t.val < 25) :=
  (by decide +kernel : ∀ t : Fin grid2.N, (!(k2_cond3 (grid2.coords t) == 1#1)) = decide (t.val < 25))
/-- The only grid coordinate of point `t` is `t`. -/
theorem coords2 : ∀ t : Fin cfg2.N, (grid2.coords t 0).val = t.val :=
  (by decide +kernel : ∀ t : Fin grid2.N, (grid2.coords t 0).val = t.val)

/-- The nine input buffers, each whole and holding its block. -/
def ins2 (c : Dev nD)
    (arg1 : Memref sig .tc .vmem S1x400x10000 .fp8e4m3) (arg2 : Memref sig .tc .vmem S10000x128 .bf16) (arg3 : Memref sig .tc .vmem S1x128 .f32)
    (arg4 : Memref sig .tc .vmem S400x128 .bf16) (arg5 : Memref sig .tc .vmem S1x128 .f32) (arg6 : Memref sig .tc .vmem S1x128 .f32)
    (arg7 : Memref sig .tc .vmem S1x128 .f32) (arg8 : Memref sig .tc .vmem S128x64 .f32) (arg9 : Memref sig .tc .vmem S1x64 .f32)
    (x0 : Vec F S1x400x10000 .fp8e4m3) (x1 : Vec F S10000x128 .bf16) (x2 : Vec F S1x128 .f32) (x3 : Vec F S400x128 .bf16) (x4 : Vec F S1x128 .f32)
    (x5 : Vec F S1x128 .f32) (x6 : Vec F S1x128 .f32) (x7 : Vec F S128x64 .f32) (x8 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

/-- What the first phase's accumulator starts from at a point: zeros where it is cleared, what it held elsewhere. -/
def start2 (i : grid2.Coords) (x : Vec F S1x64 .f32) : Vec F S1x64 .f32 := if cond2_0 i then k2_pay3 else x

set_option maxHeartbeats 1600000 in
/-- The body at a point of the first phase: a block of layer 3's support is stored and its column sums are added to what the accumulator starts from. -/
theorem sound_kernel2_first (c : Dev nD) (E : Set ℕ) (i : grid2.Coords) (arg1 : Memref sig .tc .vmem S1x400x10000 .fp8e4m3) (harg1 : arg1.IsWhole) (arg2 : Memref sig .tc .vmem S10000x128 .bf16) (harg2 : arg2.IsWhole) (arg3 : Memref sig .tc .vmem S1x128 .f32) (harg3 : arg3.IsWhole) (arg4 : Memref sig .tc .vmem S400x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S1x64 .f32) (harg12 : arg12.IsWhole) (hc1 : k2_cond1 i = 1#1) (hc3 : ¬k2_cond3 i = 1#1)
    (x0 : Vec F S1x400x10000 .fp8e4m3) (x1 : Vec F S10000x128 .bf16) (x2 : Vec F S1x128 .f32) (x3 : Vec F S400x128 .bf16) (x4 : Vec F S1x128 .f32) (x5 : Vec F S1x128 .f32) (x6 : Vec F S1x128 .f32) (x7 : Vec F S128x64 .f32) (x8 : Vec F S1x64 .f32) (x9 : Vec F S400x64 .f32) (x10 : Vec F S10000x64 .bf16) (x11 : Vec F S1x64 .f32) (K : PUnit → sProp 𝕄) :
    iprop(ins2 c arg1 arg2 arg3 arg4 arg5 arg6 arg7 arg8 arg9 x0 x1 x2 x3 x4 x5 x6 x7 x8 ∗ owns (c : Thread nD τ) arg10 fullShare x9 ∗ owns (c : Thread nD τ) arg11 fullShare x10 ∗ owns (c : Thread nD τ) arg12 fullShare x11
        ∗ (iprop(ins2 c arg1 arg2 arg3 arg4 arg5 arg6 arg7 arg8 arg9 x0 x1 x2 x3 x4 x5 x6 x7 x8 ∗ owns (c : Thread nD τ) arg10 fullShare x9 ∗ owns (c : Thread nD τ) arg11 fullShare (rowsPut (i 0).val (s3Blk x0 x1 x2 x3 x4 x5 x6 x7) x10) ∗ owns (c : Thread nD τ) arg12 fullShare (d3Blk x0 x1 x2 x3 x4 x5 x6 x7 (start2 i x11))) -∗ K ⟨⟩))
      ⊢ wp frame (wpE (defs₀ (F := F)) Variants.none c none) E (cc2__agg23_kernel i arg1 harg1 arg2 harg2 arg3 harg3 arg4 harg4 arg5 harg5 arg6 harg6 arg7 harg7 arg8 harg8 arg9 harg9 arg10 harg10 arg11 harg11 arg12 harg12) K := by
  simp only [cc2__agg23_kernel_eq_skeleton]; unfold cc2__agg23_kernel_skel
  simp only [k2_part1_eq_skeleton, k2_part2_eq_skeleton]
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%f11, %hf11, H11⟩, Hk⟩
  subst hf0 hf1 hf2 hf3 hf4 hf5 hf6 hf7 hf8 hf9 hf10 hf11
  by_cases hc2 : cond2_0 i
  all_goals
    sl_exec (disch := first | sl_exact hc1 | sl_exact hc2 | sl_exact hc3)
    sl_step
    iapply Hk
    isplitl [H0 H1 H2 H3 H4 H5 H6 H7 H8]
    · isplitl [H0]; · iapply (owns_read (c : Thread nD τ) arg1 f0); iexact H0
      isplitl [H1]; · iapply (owns_read (c : Thread nD τ) arg2 f1); iexact H1
      isplitl [H2]; · iapply (owns_read (c : Thread nD τ) arg3 f2); iexact H2
      isplitl [H3]; · iapply (owns_read (c : Thread nD τ) arg4 f3); iexact H3
      isplitl [H4]; · iapply (owns_read (c : Thread nD τ) arg5 f4); iexact H4
      isplitl [H5]; · iapply (owns_read (c : Thread nD τ) arg6 f5); iexact H5
      isplitl [H6]; · iapply (owns_read (c : Thread nD τ) arg7 f6); iexact H6
      isplitl [H7]; · iapply (owns_read (c : Thread nD τ) arg8 f7); iexact H7
      iapply (owns_read (c : Thread nD τ) arg9 f8); iexact H8
    isplitl [H9]; · iapply (owns_read (c : Thread nD τ) arg10 f9); iexact H9
    isplitl [H10]
    · iexists _; isplitr
      swap; · iexact H10
      ipureintro
      refine (read_rows _ _ (i 0).val (k2_off1_eq i) _ _).trans ?_
      show rowsPut (i 0).val (s3Blk _ _ _ _ _ _ _ _) _ = _
      congr 1
      congr 1 <;> first | exact load_whole _ _ off2 _ | exact load_whole _ _ off3 _
    iexists _; isplitr
    swap; · iexact H11
    ipureintro
    refine (read_last _ _ off2 _ _ _).trans ?_
    show d3Blk _ _ _ _ _ _ _ _ _ = _
    congr 1 <;> first
      | exact load_whole _ _ off2 _
      | exact load_whole _ _ off3 _
      | exact (View.readCov_unit_zero _ off2 _ _).trans (if_pos hc2).symm
      | exact (load_whole _ _ off2 _).trans (if_neg hc2).symm

set_option maxHeartbeats 1600000 in
/-- The body at a point of the second phase: a block of the result is stored. -/
theorem sound_kernel2_second (c : Dev nD) (E : Set ℕ) (i : grid2.Coords) (arg1 : Memref sig .tc .vmem S1x400x10000 .fp8e4m3) (harg1 : arg1.IsWhole) (arg2 : Memref sig .tc .vmem S10000x128 .bf16) (harg2 : arg2.IsWhole) (arg3 : Memref sig .tc .vmem S1x128 .f32) (harg3 : arg3.IsWhole) (arg4 : Memref sig .tc .vmem S400x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S1x64 .f32) (harg12 : arg12.IsWhole) (hc1 : ¬k2_cond1 i = 1#1) (hc3 : k2_cond3 i = 1#1)
    (x0 : Vec F S1x400x10000 .fp8e4m3) (x1 : Vec F S10000x128 .bf16) (x2 : Vec F S1x128 .f32) (x3 : Vec F S400x128 .bf16) (x4 : Vec F S1x128 .f32) (x5 : Vec F S1x128 .f32) (x6 : Vec F S1x128 .f32) (x7 : Vec F S128x64 .f32) (x8 : Vec F S1x64 .f32) (x10 : Vec F S10000x64 .bf16) (x11 : Vec F S1x64 .f32) (K : PUnit → sProp 𝕄) :
    iprop(ins2 c arg1 arg2 arg3 arg4 arg5 arg6 arg7 arg8 arg9 x0 x1 x2 x3 x4 x5 x6 x7 x8 ∗ (∃ d, owns (c : Thread nD τ) arg10 fullShare d) ∗ owns (c : Thread nD τ) arg11 fullShare x10 ∗ owns (c : Thread nD τ) arg12 fullShare x11
        ∗ (iprop(ins2 c arg1 arg2 arg3 arg4 arg5 arg6 arg7 arg8 arg9 x0 x1 x2 x3 x4 x5 x6 x7 x8 ∗ owns (c : Thread nD τ) arg10 fullShare (k2_pay5 x0 x10 x11 x8) ∗ owns (c : Thread nD τ) arg11 fullShare x10 ∗ owns (c : Thread nD τ) arg12 fullShare x11) -∗ K ⟨⟩))
      ⊢ wp frame (wpE (defs₀ (F := F)) Variants.none c none) E (cc2__agg23_kernel i arg1 harg1 arg2 harg2 arg3 harg3 arg4 harg4 arg5 harg5 arg6 harg6 arg7 harg7 arg8 harg8 arg9 harg9 arg10 harg10 arg11 harg11 arg12 harg12) K := by
  simp only [cc2__agg23_kernel_eq_skeleton]; unfold cc2__agg23_kernel_skel
  simp only [k2_part1_eq_skeleton, k2_part2_eq_skeleton]
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, Hk⟩
  subst hf0 hf1 hf2 hf3 hf4 hf5 hf6 hf7 hf8 hf10 hf11
  sl_exec (disch := first | sl_exact hc1 | sl_exact hc3)
  sl_step
  iapply Hk
  isplitl [H0 H1 H2 H3 H4 H5 H6 H7 H8]
  · isplitl [H0]; · iapply (owns_read (c : Thread nD τ) arg1 f0); iexact H0
    isplitl [H1]; · iapply (owns_read (c : Thread nD τ) arg2 f1); iexact H1
    isplitl [H2]; · iapply (owns_read (c : Thread nD τ) arg3 f2); iexact H2
    isplitl [H3]; · iapply (owns_read (c : Thread nD τ) arg4 f3); iexact H3
    isplitl [H4]; · iapply (owns_read (c : Thread nD τ) arg5 f4); iexact H4
    isplitl [H5]; · iapply (owns_read (c : Thread nD τ) arg6 f5); iexact H5
    isplitl [H6]; · iapply (owns_read (c : Thread nD τ) arg7 f6); iexact H6
    isplitl [H7]; · iapply (owns_read (c : Thread nD τ) arg8 f7); iexact H7
    iapply (owns_read (c : Thread nD τ) arg9 f8); iexact H8
  isplitl [H9]
  · iexists _; isplitr
    swap; · iexact H9
    ipureintro
    refine (read_last _ _ off2 _ _ _).trans ?_
    show k2_pay5 _ _ _ _ = _
    congr 1 <;> first | exact load_whole _ _ off2 _ | exact load_whole _ _ off3 _
  isplitl [H10]; · iapply (owns_read (c : Thread nD τ) arg11 f10); iexact H10
  iapply (owns_read (c : Thread nD τ) arg12 f11); iexact H11

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of layer 3's support the body stores at point `t`. -/
def s3At (c : Dev nD) (t : Fin cfg2.N) : FVec F S400x64 .bf16 :=
  s3Blk (iblk2 V c 0 t) (iblk2 V c 1 t) (iblk2 V c 2 t) (iblk2 V c 3 t) (iblk2 V c 4 t) (iblk2 V c 5 t) (iblk2 V c 6 t) (iblk2 V c 7 t)

/-- The column sums of the support's blocks up to point `n`, as the body accumulates them. -/
def d3At (c : Dev nD) : (n : ℕ) → n < cfg2.N → Vec F S1x64 .f32
  | 0, h => d3Blk (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) k2_pay3
  | n + 1, h => d3Blk (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (d3At c n (Nat.lt_of_succ_lt h))

theorem lt2 {n : ℕ} (h : n < 50) : n < cfg2.N := Nat.lt_of_lt_of_eq h (show cfg2.N = 50 from N_2).symm

/-- Layer 3's support as the first phase leaves it. -/
def S3 (c : Dev nD) : Vec F S10000x64 .bf16 := fun y =>
  s3At V c ⟨(y 0).val / 400, lt2 (by have := (y 0).isLt; change (y 0).val < 10000 at this; omega)⟩ (ix2 ⟨(y 0).val % 400, Nat.mod_lt _ (by norm_num)⟩ (y 1))

/-- The block of the result the body stores at point `t` of the second phase. -/
def outAt (c : Dev nD) (t : Fin cfg2.N) : FVec F S400x64 .f32 :=
  k2_pay5 (iblk2 V c 0 t) (S3 V c) (d3At V c 24 (lt2 (by norm_num))) (iblk2 V c 8 t)

/-- What the two scratch buffers hold before point `t`: the support's rows stored so far, and their column sums. -/
def Held (c : Dev nD) (t : ℕ) (X0 : Vec F S10000x64 .bf16) (X1 : Vec F S1x64 .f32) : Prop :=
  (∀ y, (y 0).val < 400 * t → X0 y = S3 V c y) ∧ ∀ (n : ℕ) (h : n < 25), n = min (t - 1) 24 → 0 < t → X1 = d3At V c n (lt2 (by omega))

/-- What pipeline 2 leaves on core `c`: an input's buffer holds its block, an output's the value above. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => outAt V c t
  Φ t := iprop((∃ (X0 : Vec F S10000x64 .bf16) (X1 : Vec F S1x64 .f32), owns (c : Thread nD τ) (Memref.whole cc2_scratch0) fullShare X0 ∗ owns (c : Thread nD τ) (Memref.whole cc2_scratch1) fullShare X1 ∗ ⌜Held V c t.val X0 X1⌝)
    ∗ Pipeline.scopedRestBut spec2 c [cc2_scratch0, cc2_scratch1] ∗ ∃ r, prngReg c r)
  q _ := fullShare
  owed _ := 0

/-- The data's arrays are the entry contents. -/
theorem A_eq2 (c : Dev nD) (w : Fin cfg2.W) : (dat2 V c).A w = V c (Pipeline.arrRef spec2 w) := by
  dsimp only [dat2]

/-! What the body leaves in each output. -/

theorem after2_9 (c : Dev nD) (t : Fin cfg2.N) : (dat2 V c).after 9 t = outAt V c t := by dsimp only [dat2]

/-- An input's current buffer holds its block at every point, fetched there or kept from the point before. -/
theorem before_in2 (c : Dev nD) (w : Fin cfg2.W) (hw : (cfg2.win w).isOut = false) (t : Fin cfg2.N) (d) :
    (dat2 V c).before w t d = (dat2 V c).fetched w t d :=
  (dat2 V c).before_in_eq_fetched w hw (fun _ => by fin_cases w <;> first | rfl | exact absurd hw (by decide))
    (fun _ _ _ => by fin_cases w <;> rfl) (fun _ => by fin_cases w <;> first | rfl | exact absurd hw (by decide)) t d

/-- After the first phase the scratch buffers are settled. -/
theorem held_late (c : Dev nD) (t : ℕ) (h : 25 ≤ t) (X0 : Vec F S10000x64 .bf16) (X1 : Vec F S1x64 .f32) :
    Held V c t X0 X1 ↔ X0 = S3 V c ∧ X1 = d3At V c 24 (lt2 (by norm_num)) := by
  constructor
  · rintro ⟨a, b⟩
    exact ⟨funext fun y => a y (by have := (y 0).isLt; change (y 0).val < 10000 at this; omega), b 24 (by norm_num) (by omega) (by omega)⟩
  · rintro ⟨rfl, rfl⟩
    exact ⟨fun _ _ => rfl, fun n hn e _ => by have : n = 24 := by omega
                                              subst this; rfl⟩

/-- One more block of the support's rows. -/
theorem held_rows (c : Dev nD) (t : Fin cfg2.N) (X0 : Vec F S10000x64 .bf16)
    (h : ∀ y, (y 0).val < 400 * t.val → X0 y = S3 V c y) :
    ∀ y, (y 0).val < 400 * (t.val + 1) → rowsPut t.val (s3At V c t) X0 y = S3 V c y := by
  intro y hy
  unfold rowsPut
  split
  · next hr =>
    have e : (⟨(y 0).val / 400, lt2 (by have := (y 0).isLt; change (y 0).val < 10000 at this; omega)⟩ : Fin cfg2.N) = t :=
      Fin.ext (by dsimp only; omega)
    unfold S3
    rw [e]
    have e' : (⟨(y 0).val - 400 * t.val, by omega⟩ : Fin 400) = ⟨(y 0).val % 400, Nat.mod_lt _ (by norm_num)⟩ := Fin.ext (by dsimp only; omega)
    rw [e']
  · next hr => exact h y (by omega)

/-- The first point. -/
theorem held_first (c : Dev nD) (t : Fin cfg2.N) (h0 : t.val = 0) (X0 : Vec F S10000x64 .bf16) (X1 : Vec F S1x64 .f32)
    (h : Held V c t.val X0 X1) :
    Held V c (t.val + 1) (rowsPut t.val (s3At V c t) X0) (d3Blk (iblk2 V c 0 t) (iblk2 V c 1 t) (iblk2 V c 2 t) (iblk2 V c 3 t) (iblk2 V c 4 t) (iblk2 V c 5 t) (iblk2 V c 6 t) (iblk2 V c 7 t) k2_pay3) := by
  refine ⟨held_rows V c t X0 h.1, fun n hn e _ => ?_⟩
  obtain ⟨k, hk⟩ := t
  dsimp only at h0
  subst h0
  have : n = 0 := by dsimp only at e; omega
  subst this; rfl

/-- A later point of the first phase. -/
theorem held_later (c : Dev nD) (t : Fin cfg2.N) (h0 : ¬t.val = 0) (h25 : t.val < 25) (X0 : Vec F S10000x64 .bf16) (X1 : Vec F S1x64 .f32)
    (h : Held V c t.val X0 X1) :
    Held V c (t.val + 1) (rowsPut t.val (s3At V c t) X0) (d3Blk (iblk2 V c 0 t) (iblk2 V c 1 t) (iblk2 V c 2 t) (iblk2 V c 3 t) (iblk2 V c 4 t) (iblk2 V c 5 t) (iblk2 V c 6 t) (iblk2 V c 7 t) X1) := by
  refine ⟨held_rows V c t X0 h.1, fun n hn e _ => ?_⟩
  obtain ⟨k, hk⟩ := t
  cases k with
  | zero => exact absurd rfl h0
  | succ k =>
    dsimp only at h25 e
    have : n = k + 1 := by omega
    subst this
    rw [h.2 k (by omega) (by dsimp only; omega) (by dsimp only; omega)]
    rfl

/-- Any point of the first phase, from what the accumulator starts from there. -/
theorem held_step (c : Dev nD) (t : Fin cfg2.N) (h25 : t.val < 25) (X0 : Vec F S10000x64 .bf16) (X1 : Vec F S1x64 .f32)
    (h : Held V c t.val X0 X1) :
    Held V c (t.val + 1) (rowsPut t.val (s3At V c t) X0) (d3Blk (iblk2 V c 0 t) (iblk2 V c 1 t) (iblk2 V c 2 t) (iblk2 V c 3 t) (iblk2 V c 4 t) (iblk2 V c 5 t) (iblk2 V c 6 t) (iblk2 V c 7 t) (start2 (grid2.coords t) X1)) := by
  by_cases h0 : t.val = 0
  · rw [start2, if_pos ((hcond2_0 t).mpr h0)]; exact held_first V c t h0 X0 X1 h
  · rw [start2, if_neg fun h => h0 ((hcond2_0 t).mp h)]; exact held_later V c t h0 h25 X0 X1 h

/-- What the pipeline hands the body at point `t`. -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What it wants back. -/
def wanted2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ (dat2 V c).leavesExact 9 t)

/-- What the body is called with: the inputs hold their blocks. -/
def bodyPre2 (c : Dev nD) (t : Fin cfg2.N) : sProp 𝕄 :=
  iprop((dat2 V c).Φ t.castSucc ∗ (dat2 V c).owesAt () t.castSucc
    ∗ ins2 c (st2_0 t) (st2_1 t) (st2_2 t) (st2_3 t) (st2_4 t) (st2_5 t) (st2_6 t) (st2_7 t) (st2_8 t)
      (iblk2 V c 0 t) (iblk2 V c 1 t) (iblk2 V c 2 t) (iblk2 V c 3 t) (iblk2 V c 4 t) (iblk2 V c 5 t) (iblk2 V c 6 t) (iblk2 V c 7 t) (iblk2 V c 8 t)
    ∗ (∃ d, owns (c : Thread nD τ) (st2_9 t) fullShare ((dat2 V c).before 9 t d)))

/-- What it returns: the inputs still hold them. -/
def bodyPost2 (c : Dev nD) (t : Fin cfg2.N) : sProp 𝕄 :=
  iprop((dat2 V c).Φ t.succ ∗ (dat2 V c).owesAt () t.succ
    ∗ ins2 c (st2_0 t) (st2_1 t) (st2_2 t) (st2_3 t) (st2_4 t) (st2_5 t) (st2_6 t) (st2_7 t) (st2_8 t)
      (iblk2 V c 0 t) (iblk2 V c 1 t) (iblk2 V c 2 t) (iblk2 V c 3 t) (iblk2 V c 4 t) (iblk2 V c 5 t) (iblk2 V c 6 t) (iblk2 V c 7 t) (iblk2 V c 8 t)
    ∗ (dat2 V c).leavesExact 9 t)

/-- What is handed is what the body is called with. -/
theorem handed_pre2 (c : Dev nD) (t : Fin cfg2.N) : handed2 V c t ⊢ bodyPre2 V c t := by
  unfold handed2 bodyPre2 ins2
  simp only [show ∀ d, (dat2 V c).before 0 t d = iblk2 V c 0 t from before_in2 V c 0 rfl t,
    show ∀ d, (dat2 V c).before 1 t d = iblk2 V c 1 t from before_in2 V c 1 rfl t,
    show ∀ d, (dat2 V c).before 2 t d = iblk2 V c 2 t from before_in2 V c 2 rfl t,
    show ∀ d, (dat2 V c).before 3 t d = iblk2 V c 3 t from before_in2 V c 3 rfl t,
    show ∀ d, (dat2 V c).before 4 t d = iblk2 V c 4 t from before_in2 V c 4 rfl t,
    show ∀ d, (dat2 V c).before 5 t d = iblk2 V c 5 t from before_in2 V c 5 rfl t,
    show ∀ d, (dat2 V c).before 6 t d = iblk2 V c 6 t from before_in2 V c 6 rfl t,
    show ∀ d, (dat2 V c).before 7 t d = iblk2 V c 7 t from before_in2 V c 7 rfl t,
    show ∀ d, (dat2 V c).before 8 t d = iblk2 V c 8 t from before_in2 V c 8 rfl t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, Hout⟩
  isplitl [HΦ]; · iexact HΦ
  isplitl [Ho]; · iexact Ho
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hout

/-- What the body returns is what is wanted back. -/
theorem post_wanted2 (c : Dev nD) (t : Fin cfg2.N) : bodyPost2 V c t ⊢ wanted2 V c t := by
  unfold bodyPost2 wanted2 ins2
  iintro ⟨HΦ, Ho, ⟨H0, H1, H2, H3, H4, H5, H6, H7, H8⟩, Hout⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hout

/-- In the second phase the output's buffer is left at the block of the result. -/
theorem leavesExact2_9 (c : Dev nD) (t : Fin cfg2.N) (h25 : 25 ≤ t.val) :
    (dat2 V c).leavesExact 9 t = owns (c : Thread nD τ) (st2_9 t) fullShare (outAt V c t) := by
  unfold Dat.leavesExact
  rw [hidle2_9, hflush2_9, decide_eq_true h25, decide_eq_false (by omega), after2_9]

set_option maxHeartbeats 1600000 in
/-- The body at a point of the first phase. -/
theorem sound_body2_first (c : Dev nD) (t : Fin cfg2.N) (h25 : t.val < 25) :
    bodyPre2 V c t ⊢ wp frame (wpE (defs₀ (F := F)) Variants.none c none) Set.univ (bodyAt2 t) (fun _ => bodyPost2 V c t) := by
  unfold bodyPre2 bodyPost2 bodyAt2
  rw [show (dat2 V c).owesAt () t.succ = (dat2 V c).owesAt () t.castSucc from rfl,
    Dat.leavesExact_idle _ 9 t (by rw [hidle2_9]; exact decide_eq_true h25) (by rw [hflush2_9]; exact decide_eq_false (by omega))]
  dsimp only [dat2]
  iintro ⟨⟨⟨%X0, %X1, HX0, HX1, %hH⟩, HR, HP⟩, Ho, HI, ⟨%d9, H9⟩⟩
  iapply (sound_kernel2_first c Set.univ (grid2.coords t) _ _ _ _ _ _ _ _ _ _ _ _ _ _ _ _ _ _ _ _ _ _ _ _ ((hcond2_1 t).mpr h25) (fun h => absurd ((hcond2_3 t).mp h) (by omega)) (iblk2 V c 0 t) (iblk2 V c 1 t) (iblk2 V c 2 t) (iblk2 V c 3 t) (iblk2 V c 4 t) (iblk2 V c 5 t) (iblk2 V c 6 t) (iblk2 V c 7 t) (iblk2 V c 8 t) _ _ _ _)
  isplitl [HI]; · iexact HI
  isplitl [H9]; · iexact H9
  isplitl [HX0]; · iexact HX0
  isplitl [HX1]; · iexact HX1
  iintro ⟨HI, H9, HX0, HX1⟩
  isplitl [HX0 HX1 HR HP]
  · isplitl [HX0 HX1]
    · iexists _, _
      isplitl [HX0]; · iexact HX0
      isplitl [HX1]; · iexact HX1
      ipureintro
      rw [coords2 t]; exact held_step V c t h25 X0 X1 hH
    · isplitl [HR]; · iexact HR
      iexact HP
  isplitl [Ho]; · iexact Ho
  isplitl [HI]; · iexact HI
  iexists _; iexact H9

set_option maxHeartbeats 1600000 in
/-- The body at a point of the second phase. -/
theorem sound_body2_second (c : Dev nD) (t : Fin cfg2.N) (h25 : 25 ≤ t.val) :
    bodyPre2 V c t ⊢ wp frame (wpE (defs₀ (F := F)) Variants.none c none) Set.univ (bodyAt2 t) (fun _ => bodyPost2 V c t) := by
  unfold bodyPre2 bodyPost2 bodyAt2
  rw [show (dat2 V c).owesAt () t.succ = (dat2 V c).owesAt () t.castSucc from rfl,
    leavesExact2_9 V c t h25]
  dsimp only [dat2]
  iintro ⟨⟨⟨%X0, %X1, HX0, HX1, %hH⟩, HR, HP⟩, Ho, HI, ⟨%d9, H9⟩⟩
  obtain ⟨e0, e1⟩ := (held_late V c t.val h25 X0 X1).mp hH
  subst e0 e1
  iapply (sound_kernel2_second c Set.univ (grid2.coords t) _ _ _ _ _ _ _ _ _ _ _ _ _ _ _ _ _ _ _ _ _ _ _ _ (fun h => absurd ((hcond2_1 t).mp h) (by omega)) ((hcond2_3 t).mpr h25) (iblk2 V c 0 t) (iblk2 V c 1 t) (iblk2 V c 2 t) (iblk2 V c 3 t) (iblk2 V c 4 t) (iblk2 V c 5 t) (iblk2 V c 6 t) (iblk2 V c 7 t) (iblk2 V c 8 t) _ _ _)
  isplitl [HI]; · iexact HI
  isplitl [H9]; · iexists _; iexact H9
  isplitl [HX0]; · iexact HX0
  isplitl [HX1]; · iexact HX1
  iintro ⟨HI, H9, HX0, HX1⟩
  isplitl [HX0 HX1 HR HP]
  · isplitl [HX0 HX1]
    · iexists _, _
      isplitl [HX0]; · iexact HX0
      isplitl [HX1]; · iexact HX1
      ipureintro
      exact (held_late V c _ (Nat.le_succ_of_le h25) _ _).mpr ⟨rfl, rfl⟩
    · isplitl [HR]; · iexact HR
      iexact HP
  isplitl [Ho]; · iexact Ho
  isplitl [HI]; · iexact HI
  iexact H9

/-- The body at any point, from what the pipeline hands it. -/
theorem sound_body2 (c : Dev nD) (t : Fin cfg2.N) :
    bodyPre2 V c t ⊢ wp frame (wpE (defs₀ (F := F)) Variants.none c none) Set.univ (bodyAt2 t) (fun _ => bodyPost2 V c t) := by
  by_cases h25 : t.val < 25
  · exact sound_body2_first V c t h25
  · exact sound_body2_second V c t (by omega)

/-- The pipeline's body obligation at every point. -/
theorem body_obligation2 (c : Dev nD) : BodyObligation (dat2 (F := F) V c) (defs₀ (F := F)) Variants.none () Set.univ := fun t => by
  show _ ⊢ wp frame _ _ (bodyAt2 t) _
  rw [bigSep_W2, bigSep_W2]
  exact triple_restated (sound_body2 V c t) rfl (handed_pre2 V c t) fun _ => post_wanted2 V c t

end Cert.KernelIdeal.Hand

end
-- ==== Proof.Run.lean ====
/- The whole of @main as segments: the host stretch and the three pallas_calls, run from the launch to the return, at any float instance. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Run2
public import Idealize.ShloMosaic.Lib.Pipeline.Regions
public import Idealize.ShloMosaic.Lib.Pipeline.RegionArraysS

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10, main_arg11]

/-- No operation of the host stretch allocates a buffer. -/
theorem host_fresh : (hostOps0 : List (HloOp τ sig (Elt F))).Forall fun op => op.fresh = ∅ := by
  simp only [List.Forall]; repeat' constructor
/-- What the host stretch writes, in order. -/
abbrev hostW : List (Ref sig .tc) := [main_v0, main_v1, main_v2, main_v3, main_v4, main_v5, main_v6]
theorem host_writes : (hostOps0 : List (HloOp τ sig (Elt F))).Forall fun op => op.writes ⊆ (hostW.map (Proc.devRef (τ := τ) .tc)).toFinset :=
  StableHlo.forall_writes_sub_of_map rfl
/-- It writes no argument. -/
theorem host_args : ∀ a ∈ argRefs, a ∉ hostW := ListAll.forall_mem_of_all_decide (by decide +kernel)

/-- No argument is an output of a call. -/
theorem args_in (p : Fin 3) : ∀ a ∈ argRefs, ∀ w : Fin (cfgs p).W, Pipeline.arrRef (cfgs p).spec w = a → ((cfgs p).win w).isOut = false := by
  fin_cases p <;> exact ListAll.forall_mem_of_all_decide (by decide +kernel)

/-! The buffers of core `c` at launch (`W0`), after the host stretch (`W1`) and after each call (`W2`, `W3`, `W4`), and
the same by the TensorCore's references. -/

abbrev W0 (c : Dev nD) : Valuation τ sig (Elt F) := fun b => m (c, b)
abbrev W1 (c : Dev nD) : Valuation τ sig (Elt F) := StableHlo.after hostOps0 (W0 m c)
abbrev V1 (c : Dev nD) (b : Ref sig .tc) : Buf (Elt F) ((c : Thread nD τ).loc b) := W1 m c b
def W2 (c : Dev nD) : Valuation τ sig (Elt F) := Pipeline.afterRegion (dat0 (V1 m) c) (W1 m c)
abbrev V2 (c : Dev nD) (b : Ref sig .tc) : Buf (Elt F) ((c : Thread nD τ).loc b) := W2 m c b
def W3 (c : Dev nD) : Valuation τ sig (Elt F) := Pipeline.afterRegion (dat1 (V2 m) c) (W2 m c)
abbrev V3 (c : Dev nD) (b : Ref sig .tc) : Buf (Elt F) ((c : Thread nD τ).loc b) := W3 m c b
def W4 (c : Dev nD) : Valuation τ sig (Elt F) := Pipeline.afterRegion (dat2 (V3 m) c) (W3 m c)

/-! A call leaves in its arrays what its pipeline leaves, and what is none of its outputs as it was. -/

theorem W2_arr (c : Dev nD) (w : Fin cfg0.W) : W2 m c (Proc.devRef .tc (Pipeline.arrRef spec0 w)) = (dat0 (V1 m) c).arrAt w cfg0.N :=
  Pipeline.afterRegion_arr _ _ launch0.win.arr_inj w
theorem W3_arr (c : Dev nD) (w : Fin cfg1.W) : W3 m c (Proc.devRef .tc (Pipeline.arrRef spec1 w)) = (dat1 (V2 m) c).arrAt w cfg1.N :=
  Pipeline.afterRegion_arr _ _ launch1.win.arr_inj w
theorem W4_arr (c : Dev nD) (w : Fin cfg2.W) : W4 m c (Proc.devRef .tc (Pipeline.arrRef spec2 w)) = (dat2 (V3 m) c).arrAt w cfg2.N :=
  Pipeline.afterRegion_arr _ _ launch2.win.arr_inj w
theorem W2_of (c : Dev nD) (r : Ref sig .tc) (h : ∀ w : Fin cfg0.W, Pipeline.arrRef spec0 w = r → (cfg0.win w).isOut = false) :
    W2 m c (Proc.devRef .tc r) = W1 m c (Proc.devRef .tc r) :=
  Pipeline.afterRegion_keeps _ _ launch0.win.arr_inj (A_eq0 (V1 m) c) r h
theorem W3_of (c : Dev nD) (r : Ref sig .tc) (h : ∀ w : Fin cfg1.W, Pipeline.arrRef spec1 w = r → (cfg1.win w).isOut = false) :
    W3 m c (Proc.devRef .tc r) = W2 m c (Proc.devRef .tc r) :=
  Pipeline.afterRegion_keeps _ _ launch1.win.arr_inj (A_eq1 (V2 m) c) r h

/-! So an argument is at every stage what it was at launch. -/

theorem W1_args (c : Dev nD) : ∀ a ∈ argRefs, W1 m c (Proc.devRef .tc a) = m ((c : Thread nD τ).loc a) := fun a ha =>
  StableHlo.after_of_writes_sub hostOps0 _ host_writes (host_args a ha)
theorem W2_args (c : Dev nD) : ∀ a ∈ argRefs, W2 m c (Proc.devRef .tc a) = m ((c : Thread nD τ).loc a) := fun a ha =>
  (W2_of m c a (args_in 0 a ha)).trans (W1_args m c a ha)
theorem W3_args (c : Dev nD) : ∀ a ∈ argRefs, W3 m c (Proc.devRef .tc a) = m ((c : Thread nD τ).loc a) := fun a ha =>
  (W3_of m c a (args_in 1 a ha)).trans (W2_args m c a ha)
theorem W4_args (c : Dev nD) : ∀ a ∈ argRefs, W4 m c (Proc.devRef .tc a) = m ((c : Thread nD τ).loc a) := fun a ha =>
  (Pipeline.afterRegion_keeps _ _ launch2.win.arr_inj (A_eq2 (V3 m) c) a (args_in 2 a ha)).trans (W3_args m c a ha)

/-- The prefetched tables: there are none. -/
abbrev adm : (p : Fin 3) → (pcfgs (F := F) p).Adm := fun p => (cfgs p).toPCfg_adm

/-- Every pipeline's proof data, each at its entry contents. -/
def pdats : (p : Fin 3) → (c : Dev nD) → Dat τ (Elt F) Unit ℕ (UR sig nD τ) ℕ (Pipeline.pin (pcfgs (F := F)) adm p) c
  | ⟨0, _⟩ => dat0 (V1 m)
  | ⟨1, _⟩ => dat1 (V2 m)
  | ⟨2, _⟩ => dat2 (V3 m)

/-- The waits of every TensorCore cell are at one level, and nobody else waits. -/
def levels (g : GSem nD τ sig) : Finset Unit := if g.1.2 = .tc then {()} else ∅

/-- The generator register, at whatever state. -/
abbrev gen (c : Dev nD) : sProp 𝕄 := iprop(∃ r, prngReg c r)

/-- What rides beside the buffers: no debts, and the generator register. -/
abbrev beside (c : Dev nD) : sProp 𝕄 :=
  iprop((∃ W, owes (c : Thread nD τ) (0 : CellTallies nD τ sig Unit) W) ∗ gen (F := F) c ∗ emp)

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The class invariant opens into the third call's own invariant before its first point. -/
theorem phi2_in (V : (c : Dev nD) → (b : Ref sig .tc) → Buf (Elt F) ((c : Thread nD τ).loc b)) (c : Dev nD) :
    Pipeline.ΦA spec2 c ⊢ (dat2 (F := F) V c).Φ 0 := by
  rw [show (dat2 (F := F) V c).Φ 0 = iprop((∃ (X0 : Vec F S10000x64 .bf16) (X1 : Vec F S1x64 .f32), owns (c : Thread nD τ) (Memref.whole cc2_scratch0) fullShare X0 ∗ owns (c : Thread nD τ) (Memref.whole cc2_scratch1) fullShare X1 ∗ ⌜Held V c 0 X0 X1⌝)
    ∗ Pipeline.scopedRestBut spec2 c [cc2_scratch0, cc2_scratch1] ∗ ∃ r, prngReg c r) from rfl]
  unfold Pipeline.ΦA
  rw [scopedRest2_split]
  iintro ⟨⟨⟨⟨%f0, H0⟩, ⟨%f1, H1⟩⟩, HR⟩, HP⟩
  isplitl [H0 H1]
  · iexists f0, f1
    isplitl [H0]; · rw [owns_whole (c : Thread nD τ) cc2_scratch0 fullShare f0]; iexact H0
    isplitl [H1]; · rw [owns_whole (c : Thread nD τ) cc2_scratch1 fullShare f1]; iexact H1
    ipureintro
    exact ⟨fun y h => absurd h (by omega), fun n h e h' => absurd h' (by omega)⟩
  isplitl [HR]; · iexact HR
  iexact HP

/-- And closes again after its last point. -/
theorem phi2_out (V : (c : Dev nD) → (b : Ref sig .tc) → Buf (Elt F) ((c : Thread nD τ).loc b)) (c : Dev nD) :
    (dat2 (F := F) V c).Φ (Fin.last _) ⊢ Pipeline.ΦA spec2 c := by
  rw [show (dat2 (F := F) V c).Φ (Fin.last _) = iprop((∃ (X0 : Vec F S10000x64 .bf16) (X1 : Vec F S1x64 .f32), owns (c : Thread nD τ) (Memref.whole cc2_scratch0) fullShare X0 ∗ owns (c : Thread nD τ) (Memref.whole cc2_scratch1) fullShare X1 ∗ ⌜Held V c cfg2.N X0 X1⌝)
    ∗ Pipeline.scopedRestBut spec2 c [cc2_scratch0, cc2_scratch1] ∗ ∃ r, prngReg c r) from rfl]
  unfold Pipeline.ΦA
  rw [scopedRest2_split]
  iintro ⟨⟨%f0, %f1, H0, H1, -⟩, HR, HP⟩
  isplitl [H0 H1 HR]
  · isplitl [H0 H1]
    · isplitl [H0]
      · iexists f0; rw [← owns_whole (c : Thread nD τ) cc2_scratch0 fullShare f0]; iexact H0
      iexists f1; rw [← owns_whole (c : Thread nD τ) cc2_scratch1 fullShare f1]; iexact H1
    iexact HR
  iexact HP

/-- A call as a segment: it takes its arrays out of the unscoped buffers and puts them back as its pipeline leaves them. -/
def call (p : Fin 3) (kit : Pipeline.LaunchFacts (nD := nD) (τ := τ) cfgs p) (W : Dev nD → Valuation τ sig (Elt F))
    (hbody : ∀ c, Pipeline.BodyObligationLoose (pdats m p c) (defs₀ (F := F)) Variants.none () Set.univ)
    (howed : ∀ c t, (pdats m p c).owed t = 0) (hrec : ∀ c, (pdats m p c).recorded 0 = Set.univ) (hq : ∀ c w, (pdats m p c).q w = fullShare)
    (hin : ∀ c, Pipeline.ΦA (cfgs p).spec c ⊢ (pdats m p c).Φ 0) (hout : ∀ c, (pdats m p c).Φ (Fin.last _) ⊢ Pipeline.ΦA (cfgs p).spec c)
    (hW : ∀ c w, (pdats m p c).A w = W c (Proc.devRef .tc (Pipeline.arrRef (cfgs p).spec w))) :
    Pipeline.RegionSeg (pcfgs (F := F)) adm (pdats m) () defs₀ Variants.none levels (fun _ _ => 0) p :=
  Pipeline.RegionSeg.ofHeldIn pcfgs adm (pdats m) () defs₀ Variants.none levels (fun _ _ => 0) p (fun _ => 0) (Pipeline.ucRefs τ sig) gen gen
    kit.toP rfl hbody howed hrec (fun c => (pdats m p c).share_full (hq c)) hin hout (fun _ => 0)
    ⟨fun _ _ _ => Finset.mem_singleton_self (), fun _ _ _ => le_rfl, fun _ _ _ h => absurd h (lt_irrefl 0)⟩ (fun _ => iprop(emp)) W hW

abbrev call0 := call m 0 launch0 (W1 m) (fun c => (body_obligation0 (V1 m) c).loose) (fun _ _ => rfl) (fun _ => rfl) (fun _ _ => rfl)
  (fun _ => .rfl) (fun _ => .rfl) (A_eq0 (V1 m))
abbrev call1 := call m 1 launch1 (W2 m) (fun c => (body_obligation1 (V2 m) c).loose) (fun _ _ => rfl) (fun _ => rfl) (fun _ _ => rfl)
  (fun _ => .rfl) (fun _ => .rfl) (A_eq1 (V2 m))
abbrev call2 := call m 2 launch2 (W3 m) (fun c => (body_obligation2 (V3 m) c).loose) (fun _ _ => rfl) (fun _ => rfl) (fun _ _ => rfl)
  (phi2_in (V3 m)) (phi2_out (V3 m)) (A_eq2 (V3 m))

/-- The host stretch as a segment. -/
abbrev host : Pipeline.HostSeg (Name := ℕ) (U := UR sig nD τ) (pcfgs (F := F)) defs₀ Variants.none levels (fun _ _ => 0) :=
  Pipeline.HostSeg.ofOps _ _ _ _ _ (Pipeline.ucRefs τ sig) hostOps0
    (fun op h => Pipeline.sub_ucRefs op (List.forall_iff_forall_mem.mp hostOps0_sub op h))
    (List.forall_iff_forall_mem.mp host_fresh) (W0 m) beside

/-- @main's four segments in order. -/
abbrev segs : List (Pipeline.Seg (pcfgs (F := F)) adm (pdats m) () defs₀ Variants.none levels (fun _ _ => 0)) :=
  [ .host (host m), .region (call0 m), .region (call1 m), .region (call2 m) ]
/-- @main is the run of the segments. -/
theorem main_run (c : Dev nD) : main (F := F) c = Pipeline.Seg.run (segs m) := (main_chain c).trans (by chain_rfl)

/-- A call's arrays are unscoped buffers. -/
theorem arrs_sub (p : Fin 3) (kit : Pipeline.LaunchFacts (nD := nD) (τ := τ) cfgs p) :
    Pipeline.arrRefs (τ := τ) (cfgs p).spec ⊆ Pipeline.ucRefs τ sig := Pipeline.arrRefs_sub_ucRefs _ kit.win.arr_unscoped

/-- The TensorCore has no unscoped semaphore. -/
theorem no_unscoped : ∀ sm : SemLoc sig, sm.isScoped .tc = true := by decide

set_option backward.isDefEq.respectTransparency.types false in
/-- A call's segment takes every unscoped buffer at its entry contents. -/
theorem call_pre {p : Fin 3} (kit : Pipeline.LaunchFacts (nD := nD) (τ := τ) cfgs p) (W : Dev nD → Valuation τ sig (Elt F)) {hbody howed hrec hq hin hout hW} (c : Dev nD) :
    iprop(StableHlo.held (c : Thread nD τ) (Pipeline.ucRefs τ sig) (W c) ∗ beside c) ⊢ (call m p kit W hbody howed hrec hq hin hout hW).pre c :=
  Pipeline.RegionSeg.ofHeldIn_pre (pcs := pcfgs (F := F)) (a := adm) (pdats := pdats m) (ι := ()) (defs₀ := defs₀) (𝒱₀ := Variants.none) (L := levels) (lv := fun _ _ => 0) (p := p)
    (D := fun _ => 0) (S := Pipeline.ucRefs τ sig) (X := gen) (Y := gen) (R := fun _ => iprop(emp)) (W := W) (arrs_sub p kit) c

set_option backward.isDefEq.respectTransparency.types false in
/-- It leaves them all as the call leaves them. -/
theorem call_post {p : Fin 3} (kit : Pipeline.LaunchFacts (nD := nD) (τ := τ) cfgs p) (W : Dev nD → Valuation τ sig (Elt F)) {hbody howed hrec hq hin hout hW} (c : Dev nD) :
    (call m p kit W hbody howed hrec hq hin hout hW).post c
      ⊢ iprop(StableHlo.held (c : Thread nD τ) (Pipeline.ucRefs τ sig) (Pipeline.afterRegion (pdats m p c) (W c)) ∗ beside c) :=
  Pipeline.RegionSeg.ofHeldIn_post (pcs := pcfgs (F := F)) (a := adm) (pdats := pdats m) (ι := ()) (defs₀ := defs₀) (𝒱₀ := Variants.none) (L := levels) (lv := fun _ _ => 0) (p := p)
    (D := fun _ => 0) (S := Pipeline.ucRefs τ sig) (X := gen) (Y := gen) (R := fun _ => iprop(emp)) (W := W) (arrs_sub p kit) c

/-- The end: every unscoped buffer at its last contents, and the generator register. -/
abbrev atEnd (c : Dev nD) : sProp 𝕄 := iprop(StableHlo.held (c : Thread nD τ) (Pipeline.ucRefs τ sig) (W4 m c) ∗ gen c)

/-- The debts are set apart at the end. -/
theorem to_end (c : Dev nD) : iprop(StableHlo.held (c : Thread nD τ) (Pipeline.ucRefs τ sig) (W4 m c) ∗ beside c)
    ⊢ iprop(atEnd m c ∗ ∃ W, owes (c : Thread nD τ) (0 : CellTallies nD τ sig Unit) W) := by
  iintro ⟨Hh, HO, Hg, -⟩
  isplitl [Hh Hg]
  · isplitl [Hh]; · iexact Hh
    iexact Hg
  iexact HO

/-- Each segment's end is the next one's start. -/
theorem chained : Pipeline.Seg.Chains (fun c => iprop(StableHlo.held (c : Thread nD τ) (Pipeline.ucRefs τ sig) (W0 m c) ∗ beside c)) (segs m)
    fun c => iprop(atEnd m c ∗ ∃ W, owes (c : Thread nD τ) (0 : CellTallies nD τ sig Unit) W) :=
  ⟨fun _ => .rfl, fun c => call_pre m launch0 (W1 m) c, fun c => (call_post m launch0 (W1 m) c).trans (call_pre m launch1 (W2 m) c),
    fun c => (call_post m launch1 (W2 m) c).trans (call_pre m launch2 (W3 m) c), fun c => (call_post m launch2 (W3 m) c).trans (to_end m c)⟩

set_option backward.isDefEq.respectTransparency.types false in
/-- The run: from any memory with zero counters every weakly fair execution of @main terminates without a fault, with
    every unscoped buffer at its last contents and every semaphore counter at zero. -/
theorem run_main : θ_run defs (onTc (τ := τ) (main (F := F))) ⟨m, fun _ => 0, ρ⟩ (fun r =>
      (∀ c : Dev nD, ∀ b ∈ Pipeline.ucRefs τ sig, r.2.mem (c, b) = W4 m c b) ∧ r.2.sem = fun _ => 0) := by
  refine Pipeline.θ_run_regions_kit_sems (pcfgs (F := F)) adm (pdats m) () cellOf_inj emb₁ defs₀ Variants.none levels (fun _ _ => 0) m ρ main (segs m)
    (fun c Q => by rw [main_run m c]) (by simp only [segs, Pipeline.Seg.pipes_host, Pipeline.Seg.pipes_region, Pipeline.Seg.pipes_nil]; decide)
    (O₀ := 0) (hL := fun _ h => if_neg h) (G := fun _ => iprop(emp))
    (u₀ := initOf (Pipeline.cells cfgs cellOf_inj) (Pipeline.launchToks cfgs cellOf_inj)) (hu₀ := ?_) (hch := chained m) (hinit := ?_)
    (QY := fun c s => ∀ b ∈ Pipeline.ucRefs τ sig, s.mem (c, b) = W4 m c b) (hfin := fun c s => ?_)
    (hQ := fun s h hz => ⟨h, funext fun g => hz g (.inr (no_unscoped g.2))⟩)
  · refine BIBase.Entails.trans ?_ fupd_intro
    rw [show (fun _ : Dev nD => (iprop(emp) : sProp 𝕄)) = fun _ => BI.emp from rfl, BI.bigSep_emp_const]
    change BI.own (emb₁ (initOf (Pipeline.cells cfgs cellOf_inj) (Pipeline.launchToks cfgs cellOf_inj))) ⊢ _
    iintro H
    isplitl [H]; · iexact H
    iempintro
  · refine Pipeline.initEach _ _ fun c => ?_
    rw [show (fun b => m ((c : Thread nD τ).loc b)) = fun b => W0 m c (Proc.devRef .tc b) from rfl, Pipeline.unscopedBufs_held]
    iintro ⟨⟨Hb, -, HO, -, Hg, -⟩, -⟩
    imodintro
    isplitl [Hb]; · iexact Hb
    isplitl [HO]; · iexists _; iexact HO
    isplitl [Hg]; · iexists _; iexact Hg
    iempintro
  · unfold atEnd StableHlo.held
    iintro ⟨⟨Hb, -⟩, HS⟩
    imodintro
    iapply (pointsTo_read_all (Pipeline.ucRefs τ sig) (fun b => (c, b)) (W4 m c) s)
    isplitl [Hb]; · iexact Hb
    iexact HS

/-- Core `c`'s arguments in `s` are those of the launch. -/
abbrev Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

/-- The result is what the third pipeline leaves, the arguments are as launched, and every semaphore counter is at zero. -/
theorem run_all : θ_run defs (onTc (τ := τ) (main (F := F))) ⟨m, fun _ => 0, ρ⟩ (fun r =>
    (∀ c : Dev nD, r.2.mem ((c.tc : Thread nD τ).loc main_v9) = (dat2 (V3 m) c).arrAt 9 cfg2.N ∧ Kept m r.2 c) ∧ r.2.sem = fun _ => 0) := by
  refine (θ_run defs _ _).mono (fun r h => ⟨fun c => ⟨(h.1 c _ (mem_uc main_v9 (by decide))).trans (W4_arr m c 9), ?_⟩, h.2⟩) (run_main m ρ)
  have kept : ∀ a ∈ argRefs, r.2.mem ((c.tc : Thread nD τ).loc a) = m ((c.tc : Thread nD τ).loc a) := fun a ha =>
    (h.1 c _ (mem_uc a (ListAll.forall_mem_of_all_decide (p := fun a => ¬ (Proc.devRef .tc a : DevRef τ sig).isScoped) (by decide +kernel) a ha))).trans (W4_args m c a ha)
  refine ⟨?_, ?_, ?_, ?_, ?_, ?_, ?_, ?_, ?_, ?_, ?_, ?_⟩ <;> exact kept _ (by decide)

/-- The frame. -/
theorem frame : θ_run defs (onTc (τ := τ) (main (F := F))) ⟨m, fun _ => 0, ρ⟩ (fun r => (∀ c : Dev nD, Kept m r.2 c) ∧ r.2.sem = fun _ => 0) :=
  (θ_run defs _ _).mono (fun _ h => ⟨fun c => (h.1 c).2, h.2⟩) (run_all m ρ)

/-- The result. -/
theorem result : θ_run defs (onTc (τ := τ) (main (F := F))) ⟨m, fun _ => 0, ρ⟩ (fun r => ∀ c : Dev nD,
    r.2.mem ((c.tc : Thread nD τ).loc main_v9) = (dat2 (V3 m) c).arrAt 9 cfg2.N ∧ Kept m r.2 c) :=
  (θ_run defs _ _).mono (fun _ h => h.1) (run_all m ρ)

end Cert.KernelIdeal.Hand

end
-- ==== Proof.Reals.lean ====
/- Arrays of real and of extended real numbers, and the operations the two programs use on them. -/
module

public import Idealize.ShloMosaic.PureOps.Ideal.Laws
public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.StackMember
public import Idealize.ShloMosaic.Lib.IdealHost
public import Idealize.ShloMosaic.Lib.IntMxu
public import Idealize.ShloMosaic.Lib.Pipeline.Value

@[expose] public section

set_option maxRecDepth 16384

noncomputable section

namespace Cert.Reals

open Idealize.ShloMosaic Idealize.ShloMosaic.ValueIdx
open scoped BigOperators

/-- A real array as an array of extended reals. -/
def toE {s : Shape} (f : s.Idx → ℝ) : s.Idx → EReal := fun i => ((f i : ℝ) : EReal)

/-- A matrix as an array of rank two. -/
def r2 {α : Type} {a b : ℕ} (f : Fin a → Fin b → α) : (⟨2, ![a, b]⟩ : Shape).Idx → α := fun y => f (y 0) (y 1)

/-- A vector as an array of rank one. -/
def r1 {α : Type} {a : ℕ} (f : Fin a → α) : (⟨1, ![a]⟩ : Shape).Idx → α := fun y => f (y 0)

/-- A vector as the one row of an array of rank two. -/
def row1 {α : Type} {a : ℕ} (f : Fin a → α) : (⟨2, ![1, a]⟩ : Shape).Idx → α := fun y => f (y 1)

theorem toE_apply {s : Shape} (f : s.Idx → ℝ) (i : s.Idx) : toE f i = ((f i : ℝ) : EReal) := rfl

theorem r2_ix2 {α : Type} {a b : ℕ} (f : Fin a → Fin b → α) (i : Fin a) (j : Fin b) : r2 f (ix2 i j) = f i j := rfl

theorem row1_ix2 {α : Type} {a : ℕ} (f : Fin a → α) (i : Fin 1) (j : Fin a) : row1 f (ix2 i j) = f j := rfl

/-- Two real matrices with equal entries are the same array. -/
theorem toE_r2_congr {a b : ℕ} {f : (⟨2, ![a, b]⟩ : Shape).Idx → ℝ} {g : Fin a → Fin b → ℝ}
    (h : ∀ i j, f (ix2 i j) = g i j) : toE f = toE (r2 g) := by
  funext y
  obtain ⟨i, j, rfl⟩ : ∃ i j, y = ix2 i j := ⟨y 0, y 1, eq_ix2 y⟩
  exact congrArg _ (h i j)

/-- A real row with the given entries. -/
theorem toE_row1_congr {b : ℕ} {f : (⟨2, ![1, b]⟩ : Shape).Idx → ℝ} {g : Fin b → ℝ}
    (h : ∀ j, f (ix2 (0 : Fin 1) j) = g j) : toE f = toE (row1 g) := by
  funext y
  obtain ⟨i, j, rfl⟩ : ∃ i j, y = ix2 i j := ⟨y 0, y 1, eq_ix2 y⟩
  obtain rfl : i = 0 := Subsingleton.elim _ _
  exact congrArg _ (h j)

/-- A matrix of extended reals as an array of rank two. -/
def m2 {a b : ℕ} (f : Fin a → Fin b → EReal) : (⟨2, ![a, b]⟩ : Shape).Idx → EReal := fun y => f (y 0) (y 1)

/-- A vector of extended reals as an array of rank one. -/
def m1 {a : ℕ} (f : Fin a → EReal) : (⟨1, ![a]⟩ : Shape).Idx → EReal := fun y => f (y 0)

/-- A vector of extended reals as the one row of an array of rank two. -/
def mrow {a : ℕ} (f : Fin a → EReal) : (⟨2, ![1, a]⟩ : Shape).Idx → EReal := fun y => f (y 1)

theorem m2_congr {a b : ℕ} {f : (⟨2, ![a, b]⟩ : Shape).Idx → EReal} {g : Fin a → Fin b → EReal} (h : ∀ i j, f (ix2 i j) = g i j) : f = m2 g := by
  funext y
  obtain ⟨i, j, rfl⟩ : ∃ i j, y = ix2 i j := ⟨y 0, y 1, eq_ix2 y⟩
  exact h i j

theorem mrow_congr {b : ℕ} {f : (⟨2, ![1, b]⟩ : Shape).Idx → EReal} {g : Fin b → EReal} (h : ∀ j, f (ix2 (0 : Fin 1) j) = g j) : f = mrow g := by
  funext y
  obtain ⟨i, j, rfl⟩ : ∃ i j, y = ix2 i j := ⟨y 0, y 1, eq_ix2 y⟩
  obtain rfl : i = 0 := Subsingleton.elim _ _
  exact h j

theorem m1_congr {b : ℕ} {f : (⟨1, ![b]⟩ : Shape).Idx → EReal} {g : Fin b → EReal} (h : ∀ j, f (ix1 j) = g j) : f = m1 g := by
  funext y
  obtain ⟨j, rfl⟩ : ∃ j, y = ix1 j := ⟨y 0, eq_ix1 y⟩
  exact h j

/-- An array of real entries, given entry by entry. -/
theorem real_congr {a b : ℕ} {f : (⟨2, ![a, b]⟩ : Shape).Idx → EReal} {g : Fin a → Fin b → ℝ} (h : ∀ i j, f (ix2 i j) = (g i j : EReal)) :
    f = toE (r2 g) := m2_congr (g := fun i j => (g i j : EReal)) h

theorem real_row_congr {b : ℕ} {f : (⟨2, ![1, b]⟩ : Shape).Idx → EReal} {g : Fin b → ℝ} (h : ∀ j, f (ix2 (0 : Fin 1) j) = (g j : EReal)) :
    f = toE (row1 g) := mrow_congr (g := fun j => (g j : EReal)) h

/-- A maximum of two reals read in the extended reals. -/
theorem coe_max (x y : ℝ) : ((max x y : ℝ) : EReal) = max (x : EReal) (y : EReal) :=
  Monotone.map_max (f := fun r : ℝ => (r : EReal)) (fun _ _ h => EReal.coe_le_coe_iff.mpr h)

/-- A minimum of two reals read in the extended reals. -/
theorem coe_min (x y : ℝ) : ((min x y : ℝ) : EReal) = min (x : EReal) (y : EReal) :=
  Monotone.map_min (f := fun r : ℝ => (r : EReal)) (fun _ _ h => EReal.coe_le_coe_iff.mpr h)

/-- A sum of reals read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The largest of finitely many reals, taken from below everything. -/
theorem fold_max_coe {n : ℕ} (f : Fin (n + 1) → ℝ) :
    (Finset.univ : Finset (Fin (n + 1))).fold max (⊥ : EReal) (fun k => (f k : EReal))
      = ((Finset.univ.sup' Finset.univ_nonempty f : ℝ) : EReal) := by
  have h1 : (Finset.univ : Finset (Fin (n + 1))).fold max (⊥ : EReal) (fun k => (f k : EReal))
      = Finset.univ.sup (fun k => (f k : EReal)) := rfl
  rw [h1, ← Finset.sup'_eq_sup Finset.univ_nonempty]
  exact (Finset.comp_sup'_eq_sup'_comp Finset.univ_nonempty (fun r : ℝ => (r : EReal)) (fun x y => coe_max x y)).symm

/-- A quotient of reals by a nonzero real. -/
theorem div_real (x y : ℝ) (h : y ≠ 0) : Ideal.div (x : EReal) (y : EReal) = ((x / y : ℝ) : EReal) := by
  rw [Ideal.div_coe h, ← EReal.coe_mul, mul_one_div]

section Ops
variable {s t : Shape} {φ ψ : FTy}

theorem toE_addf (f g : s.Idx → ℝ) : addf (F := Ideal) (φ := φ) (toE f) (toE g) = toE (fun i => f i + g i) := by
  funext i; exact (EReal.coe_add _ _).symm

theorem toE_mulf (f g : s.Idx → ℝ) : mulf (F := Ideal) (φ := φ) (toE f) (toE g) = toE (fun i => f i * g i) := by
  funext i; exact (EReal.coe_mul _ _).symm

theorem abs_real (x : ℝ) : max (x : EReal) (-(x : EReal)) = ((|x| : ℝ) : EReal) := by
  rw [abs_eq_max_neg, coe_max, EReal.coe_neg]

theorem toE_truncf (f : s.Idx → ℝ) (h) : truncf (F := Ideal) (φ := φ) ψ (toE f) h = toE f := rfl

theorem toE_extf (f : s.Idx → ℝ) (h) : extf (F := Ideal) (φ := φ) ψ (toE f) h = toE f := rfl

theorem toE_select (c : IVec s 1) (f g : s.Idx → ℝ) :
    select (α := EReal) c (toE f) (toE g) = toE (fun i => if c i = 1#1 then f i else g i) := by
  funext i
  rw [toE_apply]
  by_cases h : c i = 1#1
  · rw [if_pos h]; exact if_pos h
  · rw [if_neg h]; exact if_neg h

theorem toE_shapeCast (f : s.Idx → ℝ) (h : s.ShapeCasts t) : shapeCast (α := EReal) t (toE f) h = toE (shapeCast t f h) := rfl

/-- A scalar word repeated over a shape. -/
theorem toE_broadcast (b : BitVec φ.bits) (r : ℝ) (hb : FloatOps.ofBits (F := Ideal) φ b = (r : EReal)) :
    (broadcast s (Scalar.ofBits (F := Ideal) φ b) : s.Idx → EReal) = toE (fun _ => r) := by
  funext i; exact hb

/-- A constant array. -/
theorem toE_constant (b : BitVec φ.bits) (r : ℝ) (hb : FloatOps.ofBits (F := Ideal) φ b = (r : EReal)) :
    (constant (F := Ideal) s φ b : s.Idx → EReal) = toE (fun _ => r) := by
  funext i; exact hb

end Ops

/-! ## Reductions over one axis -/

section Reduce
variable {s t : Shape} {a : Fin s.rank} {φ : FTy}

theorem toE_sum (f : s.Idx → ℝ) (b : BitVec φ.bits) (h : s.Reduces [a] t) (hφ) (hb) :
    multiReduction (F := Ideal) (φ := φ) .add [a] t (toE f) b h hφ hb = toE (fun j => ∑ k : Fin (s.size a), f (h.lift j k)) := by
  funext j
  rw [Ideal.multiReduction_add_single]
  exact (coe_sum _ _).symm

end Reduce

/-! ## Products of two matrices -/

/-- The product of two matrices of extended reals. -/
def mmE {a b c : ℕ} (f : Fin a → Fin b → EReal) (g : Fin b → Fin c → EReal) : Fin a → Fin c → EReal := fun i j => ∑ k, f i k * g k j

theorem matmul_wide {M K N : ℕ} {φ₁ φ₂ : FTy} (d : DotDims ⟨2, ![M, K]⟩ ⟨2, ![K, N]⟩ ⟨2, ![M, N]⟩) (hd : d = DotDims.plain M K N)
    (p : Option ContractPrecision) (f : Fin M → Fin K → EReal) (g : Fin K → Fin N → EReal) :
    matmul (F := Ideal) (φ₁ := φ₁) (φ₂ := φ₂) d p (m2 f) (m2 g) (toE (fun _ => 0)) = m2 (mmE f g) := by
  subst hd
  refine m2_congr fun i j => (Ideal.matmul_plain_apply p _ _ _ i j).trans ?_
  rw [toE_apply, EReal.coe_zero, zero_add]
  rfl

theorem dotGeneral_wide {M K N : ℕ} {φ₁ φ₂ : FTy} (d : DotDims ⟨2, ![M, K]⟩ ⟨2, ![K, N]⟩ ⟨2, ![M, N]⟩) (hd : d = DotDims.plain M K N)
    (p : Option ContractPrecision) (f : Fin M → Fin K → EReal) (g : Fin K → Fin N → EReal) :
    Host.dotGeneral (F := Ideal) (φ₁ := φ₁) (φ₂ := φ₂) d p (m2 f) (m2 g) = m2 (mmE f g) := by
  subst hd
  exact m2_congr fun i j => StackMember.dotGeneral_plain_apply (φ₁ := φ₁) (φ₂ := φ₂) p _ _ i j

theorem toE_matmul {M K N : ℕ} {φ₁ φ₂ : FTy} (d : DotDims ⟨2, ![M, K]⟩ ⟨2, ![K, N]⟩ ⟨2, ![M, N]⟩) (hd : d = DotDims.plain M K N)
    (p : Option ContractPrecision) (f : (⟨2, ![M, K]⟩ : Shape).Idx → ℝ) (g : (⟨2, ![K, N]⟩ : Shape).Idx → ℝ) :
    matmul (F := Ideal) (φ₁ := φ₁) (φ₂ := φ₂) d p (toE f) (toE g) (toE (fun _ => 0))
      = toE (r2 fun i j => ∑ k : Fin K, f (ix2 i k) * g (ix2 k j)) := by
  subst hd
  funext y
  obtain ⟨i, j, rfl⟩ : ∃ i j, y = ix2 i j := ⟨y 0, y 1, eq_ix2 y⟩
  refine (Ideal.matmul_plain_apply p _ _ _ i j).trans ?_
  rw [toE_apply, EReal.coe_zero, zero_add]
  exact (coe_sum _ _).symm.trans rfl

/-! ## The largest of a row or column -/

/-- The largest of finitely many reals (zero of none). -/
def maxOf {n : ℕ} (f : Fin n → ℝ) : ℝ := if h : (Finset.univ : Finset (Fin n)).Nonempty then Finset.univ.sup' h f else 0

theorem fold_max_maxOf {n : ℕ} (hn : 0 < n) (f : Fin n → ℝ) :
    (Finset.univ : Finset (Fin n)).fold max (⊥ : EReal) (fun k => (f k : EReal)) = ((maxOf f : ℝ) : EReal) := by
  obtain ⟨m, rfl⟩ : ∃ m, n = m + 1 := ⟨n - 1, by omega⟩
  rw [fold_max_coe, maxOf, dif_pos]

/-- Each of the numbers is at most the largest. -/
theorem le_maxOf {n : ℕ} (f : Fin n → ℝ) (k : Fin n) : f k ≤ maxOf f := by
  have hk : (Finset.univ : Finset (Fin n)).Nonempty := ⟨k, Finset.mem_univ k⟩
  rw [maxOf, dif_pos hk]
  exact Finset.le_sup' f (Finset.mem_univ k)

theorem ofBits_neg_inf : FloatOps.ofBits (F := Ideal) .f32 0xFF800000#32 = (⊥ : EReal) := by
  show Ideal.ofBits .f32 0xFF800000#32 = ⊥
  simp [Ideal.ofBits, Ideal.ieee]

/-! ## Indices a reduction reads -/

theorem lift_col {m n : ℕ} (h : (⟨2, ![m, n]⟩ : Shape).Reduces [0] (⟨1, ![n]⟩ : Shape)) (t : Fin n)
    (k : Fin ((⟨2, ![m, n]⟩ : Shape).size 0)) : h.lift (ix1 t) k = ix2 (k : Fin m) t := by
  funext c; apply Fin.ext
  match c with
  | ⟨0, _⟩ => rfl
  | ⟨1, _⟩ => rfl

theorem lift_row {m n : ℕ} (h : (⟨2, ![m, n]⟩ : Shape).Reduces [1] (⟨1, ![m]⟩ : Shape)) (t : Fin m)
    (k : Fin ((⟨2, ![m, n]⟩ : Shape).size 1)) : h.lift (ix1 t) k = ix2 t (k : Fin n) := by
  funext c; apply Fin.ext
  match c with
  | ⟨0, _⟩ => rfl
  | ⟨1, _⟩ => rfl

theorem lift_last {l m n : ℕ} (h : (⟨3, ![l, m, n]⟩ : Shape).Reduces [2] (⟨2, ![l, m]⟩ : Shape)) (i : Fin l) (t : Fin m)
    (k : Fin ((⟨3, ![l, m, n]⟩ : Shape).size 2)) : h.lift (ix2 i t) k = ix3 i t (k : Fin n) := by
  funext c; apply Fin.ext
  match c with
  | ⟨0, _⟩ => rfl
  | ⟨1, _⟩ => rfl
  | ⟨2, _⟩ => rfl

/-! ## Reductions of matrices of extended reals -/

section Wide
variable {m n : ℕ} (f : Fin m → Fin n → EReal)

/-- The largest of each column. -/
theorem maxCol_wide (h : (⟨2, ![m, n]⟩ : Shape).Reduces [0] (⟨1, ![n]⟩ : Shape)) (hφ) (hb) :
    multiReduction (F := Ideal) (φ := .f32) .maximumf [0] ⟨1, ![n]⟩ (m2 f) 0xFF800000#32 h hφ hb
      = m1 fun j => (Finset.univ : Finset (Fin m)).fold max (⊥ : EReal) fun k => f k j := by
  refine m1_congr fun j => ?_
  rw [Ideal.multiReduction_maximumf_single, ofBits_neg_inf]
  exact congrArg (fun q : Fin m → EReal => Finset.univ.fold max ⊥ q) (funext fun k => by rw [Function.comp_apply, lift_col]; rfl)

/-- The largest of each row. -/
theorem maxRow_wide (h : (⟨2, ![m, n]⟩ : Shape).Reduces [1] (⟨1, ![m]⟩ : Shape)) (hφ) (hb) :
    multiReduction (F := Ideal) (φ := .f32) .maximumf [1] ⟨1, ![m]⟩ (m2 f) 0xFF800000#32 h hφ hb
      = m1 fun i => (Finset.univ : Finset (Fin n)).fold max (⊥ : EReal) (f i) := by
  refine m1_congr fun i => ?_
  rw [Ideal.multiReduction_maximumf_single, ofBits_neg_inf]
  exact congrArg (fun q : Fin n → EReal => Finset.univ.fold max ⊥ q) (funext fun k => by rw [Function.comp_apply, lift_row]; rfl)

/-- The sum of each column of a real matrix. -/
theorem sumCol_real {φ : FTy} (q : Fin m → Fin n → ℝ) (b : BitVec φ.bits) (h : (⟨2, ![m, n]⟩ : Shape).Reduces [0] (⟨1, ![n]⟩ : Shape)) (hφ) (hb) :
    multiReduction (F := Ideal) (φ := φ) .add [0] ⟨1, ![n]⟩ (toE (r2 q)) b h hφ hb = m1 fun j => ((∑ k, q k j : ℝ) : EReal) := by
  refine m1_congr fun j => ?_
  rw [Ideal.multiReduction_add_single, coe_sum]
  exact Finset.sum_congr rfl fun k _ => by rw [lift_col]; rfl

/-- The sum of each row. -/
theorem sumRow_wide {φ : FTy} (b : BitVec φ.bits) (h : (⟨2, ![m, n]⟩ : Shape).Reduces [1] (⟨1, ![m]⟩ : Shape)) (hφ) (hb) :
    multiReduction (F := Ideal) (φ := φ) .add [1] ⟨1, ![m]⟩ (m2 f) b h hφ hb = m1 fun i => ∑ k, f i k := by
  refine m1_congr fun i => ?_
  rw [Ideal.multiReduction_add_single]
  exact Finset.sum_congr rfl fun k _ => by rw [lift_row]; rfl

/-- A vector read as the one row of a matrix. -/
theorem row_cast (v : Fin n → EReal) (h : (⟨1, ![n]⟩ : Shape).ShapeCasts ⟨2, ![1, n]⟩) : shapeCast ⟨2, ![1, n]⟩ (m1 v) h = mrow v :=
  mrow_congr fun j => by rw [shapeCast_a_1a_apply]; rfl

/-- One row repeated. -/
theorem row_repeat (v : Fin n → EReal) (h : (⟨2, ![1, n]⟩ : Shape).Broadcasts ⟨2, ![m, n]⟩) :
    broadcastTo ⟨2, ![m, n]⟩ (mrow v) h = m2 fun _ j => v j :=
  m2_congr fun i j => by rw [broadcastTo_1b_ab_apply]; rfl

/-- One row of reals repeated. -/
theorem row_repeat_real (v : Fin n → ℝ) (h : (⟨2, ![1, n]⟩ : Shape).Broadcasts ⟨2, ![m, n]⟩) :
    broadcastTo (α := EReal) ⟨2, ![m, n]⟩ (toE (row1 v)) h = m2 fun _ j => (v j : EReal) := row_repeat (fun j => (v j : EReal)) h

end Wide

/-! ## Eight-bit codes -/

/-- An array of integers as an array of eight-bit words. -/
def i8 {s : Shape} (n : s.Idx → ℤ) : IVec s 8 := fun i => BitVec.ofInt 8 (n i)

theorem i8_toInt {s : Shape} (n : s.Idx → ℤ) (i : s.Idx) (h : -128 ≤ n i ∧ n i ≤ 127) : (i8 n i).toInt = n i := by
  show (BitVec.ofInt 8 (n i)).toInt = n i
  rw [BitVec.toInt_ofInt]
  apply Int.bmod_eq_of_le <;> omega

/-- A whole number converted to an eight-bit word is held between -128 and 127. -/
theorem toE_fptosi {s : Shape} {φ : FTy} (n : s.Idx → ℤ) :
    fptosi (F := Ideal) (φ := φ) 8 (toE fun i => ((n i : ℤ) : ℝ)) = i8 (fun i => max (-128) (min 127 (n i))) := by
  funext i
  show Ideal.fptosi 8 (((n i : ℤ) : ℝ) : EReal) = _
  rw [Ideal.fptosi, Ideal.toIntClamped_coe, Int.floor_intCast, Int.ceil_intCast, ite_self]
  rfl

theorem i8_r2_congr {a b : ℕ} {f g : Fin a → Fin b → ℤ} (h : ∀ i j, f i j = g i j) : i8 (r2 f) = i8 (r2 g) :=
  congrArg i8 (congrArg r2 (funext fun i => funext fun j => h i j))

/-- A matrix of whole numbers converted to eight-bit words. -/
theorem toE_fptosi_r2 {a b : ℕ} {φ : FTy} (n : Fin a → Fin b → ℤ) :
    fptosi (F := Ideal) (φ := φ) 8 (toE (r2 fun i j => ((n i j : ℤ) : ℝ))) = i8 (r2 fun i j => max (-128) (min 127 (n i j))) :=
  toE_fptosi (r2 n)

/-- The product of two arrays of codes, where the products' magnitudes add up to at most the exact bound: the sums
themselves. -/
theorem toE_matmulI8 {M K N : ℕ} (d : DotDims ⟨2, ![M, K]⟩ ⟨2, ![K, N]⟩ ⟨2, ![M, N]⟩) (hd : d = DotDims.plain M K N)
    (p : (⟨2, ![M, K]⟩ : Shape).Idx → ℤ) (q : (⟨2, ![K, N]⟩ : Shape).Idx → ℤ) (hp : ∀ i, -128 ≤ p i ∧ p i ≤ 127)
    (hq : ∀ i, -128 ≤ q i ∧ q i ≤ 127) (hb : ∀ i j, (∑ k : Fin K, |(p (ix2 i k) : ℝ)| * |(q (ix2 k j) : ℝ)|) ≤ 67108864) :
    sitofp (F := Ideal) .f32 (matmulI8 IntMxuNumerics.v5e d (i8 p) (i8 q) (constantI ⟨2, ![M, N]⟩ 32 0#32))
      = toE (r2 fun i j => ∑ k : Fin K, (p (ix2 i k) : ℝ) * (q (ix2 k j) : ℝ)) := by
  subst hd
  funext y
  obtain ⟨i, j, rfl⟩ : ∃ i j, y = ix2 i j := ⟨y 0, y 1, eq_ix2 y⟩
  have el : ∀ k, (DotDims.plain M K N).lhsIdx (ix2 i j) ((DotDims.plainContr M K N).symm k) = ix2 i k := by
    intro k
    funext a; apply Fin.ext
    match a with
    | ⟨0, _⟩ => rfl
    | ⟨1, _⟩ => exact contrEquiv1_symm_val _ K (DotDims.plain_contr_rank M K N) (DotDims.plain_contr_size M K N) k
  have er : ∀ k, (DotDims.plain M K N).rhsIdx (ix2 i j) ((DotDims.plainContr M K N).symm k) = ix2 k j := by
    intro k
    funext a; apply Fin.ext
    match a with
    | ⟨0, _⟩ => exact contrEquiv1_symm_val _ K (DotDims.plain_contr_rank M K N) (DotDims.plain_contr_size M K N) k
    | ⟨1, _⟩ => rfl
  have hdot : dotI8 (DotDims.plain M K N) (i8 p) (i8 q) (ix2 i j) = ∑ k : Fin K, p (ix2 i k) * q (ix2 k j) := by
    unfold dotI8
    rw [← Equiv.sum_comp (DotDims.plainContr M K N).symm]
    exact Finset.sum_congr rfl fun k _ => by rw [el, er, i8_toInt _ _ (hp _), i8_toInt _ _ (hq _)]
  have habs : absDotI8 (DotDims.plain M K N) (i8 p) (i8 q) (ix2 i j) = ∑ k : Fin K, (p (ix2 i k) * q (ix2 k j)).natAbs := by
    unfold absDotI8
    rw [← Equiv.sum_comp (DotDims.plainContr M K N).symm]
    exact Finset.sum_congr rfl fun k _ => by rw [el, er, i8_toInt _ _ (hp _), i8_toInt _ _ (hq _)]
  have hle : absDotI8 (DotDims.plain M K N) (i8 p) (i8 q) (ix2 i j) ≤ IntMxuNumerics.v5e.exactUpTo := by
    rw [habs]
    have h1 : ((∑ k : Fin K, (p (ix2 i k) * q (ix2 k j)).natAbs : ℕ) : ℝ) ≤ 67108864 := by
      refine le_trans (le_of_eq ?_) (hb i j)
      rw [Nat.cast_sum]
      refine Finset.sum_congr rfl fun k _ => ?_
      rw [Nat.cast_natAbs, Int.cast_abs, Int.cast_mul, abs_mul]
    have h2 : (∑ k : Fin K, (p (ix2 i k) * q (ix2 k j)).natAbs) ≤ 67108864 := by exact_mod_cast h1
    exact h2
  show (((matmulI8 IntMxuNumerics.v5e _ (i8 p) (i8 q) _ (ix2 i j)).toInt : ℝ) : EReal) = _
  rw [matmulI8_toInt IntMxuNumerics.v5e _ (i8 p) (i8 q) _ (ix2 i j) rfl hle, hdot, toE_apply, r2_ix2]
  push_cast
  rfl

end Cert.Reals

end
-- ==== Proof.Consts.lean ====
/- The literals the two programs print, as real numbers. -/
module

public import Idealize.ShloMosaic.PureOps.Ideal.Laws
public import proofs.«01_k».proof.Proof.Gen.KernelIdeal
public import Idealize.ShloMosaic.PureOps.IdealRules

@[expose] public section

noncomputable section

namespace Cert.Reals

open Idealize.ShloMosaic

/-- The small number under the quantiser's scale. -/
def tiny : ℝ := 10633824 * (2 : ℝ) ^ (-123 : ℤ)

/-- The small number under the normalisation's square root. -/
def eps : ℝ := 10995116 * (2 : ℝ) ^ (-40 : ℤ)

theorem tiny_pos : 0 < tiny := by unfold tiny; positivity

theorem eps_pos : 0 < eps := by unfold eps; positivity

theorem word_0 : FloatOps.ofBits (F := Ideal) .f32 0x00000000#32 = ((0 : ℝ) : EReal) := by
  show Ideal.ofBits .f32 0x00000000#32 = _
  simp [Ideal.ofBits, Ideal.ieee]

theorem word_1 : FloatOps.ofBits (F := Ideal) .f32 0x3F800000#32 = ((1 : ℝ) : EReal) := by
  show Ideal.ofBits .f32 0x3F800000#32 = _
  simp [Ideal.ofBits, Ideal.ieee, -EReal.coe_mul]; norm_num

theorem word_4 : FloatOps.ofBits (F := Ideal) .f32 0x40800000#32 = ((4 : ℝ) : EReal) := by
  show Ideal.ofBits .f32 0x40800000#32 = _
  simp [Ideal.ofBits, Ideal.ieee, -EReal.coe_mul]; norm_num

theorem word_127 : FloatOps.ofBits (F := Ideal) .f32 0x42FE0000#32 = ((127 : ℝ) : EReal) := by
  show Ideal.ofBits .f32 0x42FE0000#32 = _
  simp [Ideal.ofBits, Ideal.ieee, -EReal.coe_mul]; norm_num

theorem word_128 : FloatOps.ofBits (F := Ideal) .f32 0x43000000#32 = ((128 : ℝ) : EReal) := by
  show Ideal.ofBits .f32 0x43000000#32 = _
  simp [Ideal.ofBits, Ideal.ieee, -EReal.coe_mul]; norm_num

theorem word_neg128 : FloatOps.ofBits (F := Ideal) .f32 0xC3000000#32 = ((-128 : ℝ) : EReal) := by
  show Ideal.ofBits .f32 0xC3000000#32 = _
  simp [Ideal.ofBits, Ideal.ieee, -EReal.coe_mul]; norm_num

theorem word_254 : FloatOps.ofBits (F := Ideal) .f32 0x437E0000#32 = ((254 : ℝ) : EReal) := by
  show Ideal.ofBits .f32 0x437E0000#32 = _
  simp [Ideal.ofBits, Ideal.ieee, -EReal.coe_mul]; norm_num

theorem word_255 : FloatOps.ofBits (F := Ideal) .f32 0x437F0000#32 = ((255 : ℝ) : EReal) := by
  show Ideal.ofBits .f32 0x437F0000#32 = _
  simp [Ideal.ofBits, Ideal.ieee, -EReal.coe_mul]; norm_num

theorem word_half : FloatOps.ofBits (F := Ideal) .f32 0x3F000000#32 = ((1 / 2 : ℝ) : EReal) := by
  show Ideal.ofBits .f32 0x3F000000#32 = _
  simp [Ideal.ofBits, Ideal.ieee, -EReal.coe_mul]; norm_num

theorem word_quarter : FloatOps.ofBits (F := Ideal) .f32 0x3E800000#32 = ((1 / 4 : ℝ) : EReal) := by
  show Ideal.ofBits .f32 0x3E800000#32 = _
  simp [Ideal.ofBits, Ideal.ieee, -EReal.coe_mul]; norm_num

theorem word_bound : FloatOps.ofBits (F := Ideal) .f32 0x4C800000#32 = ((67108864 : ℝ) : EReal) := by
  show Ideal.ofBits .f32 0x4C800000#32 = _
  simp [Ideal.ofBits, Ideal.ieee, -EReal.coe_mul]; norm_num

theorem word_tiny : FloatOps.ofBits (F := Ideal) .f32 0x0DA24260#32 = ((tiny : ℝ) : EReal) := by
  show Ideal.ofBits .f32 0x0DA24260#32 = _
  simp [Ideal.ofBits, Ideal.ieee, tiny, -EReal.coe_mul]

theorem word_eps : FloatOps.ofBits (F := Ideal) .f32 0x3727C5AC#32 = ((eps : ℝ) : EReal) := by
  show Ideal.ofBits .f32 0x3727C5AC#32 = _
  simp [Ideal.ofBits, Ideal.ieee, eps, -EReal.coe_mul]

theorem word_inf : FloatOps.ofBits (F := Ideal) .f32 0x7F800000#32 = (⊤ : EReal) := by
  show Ideal.ofBits .f32 0x7F800000#32 = _
  simp [Ideal.ofBits, Ideal.ieee]

/-- The named constant is one part in 255. -/
theorem named_inv255 : Named.named (F := Ideal) (φ := FTy.f32) Cert.KernelIdeal.κ "inv255" (0x3B808081#32 : BitVec 32) = ((1 / 255 : ℝ) : EReal) :=
  IdealRules.named_const.ideal_named_scalar Cert.KernelIdeal.κ "inv255" (φ := FTy.f32) (0x3B808081#32 : BitVec 32) ((1 / 255 : ℝ) : EReal) rfl

end Cert.Reals

end
-- ==== Proof.Math.lean ====
/- The network, and the identities between the two ways it is computed: real from the first quantisation to the third support,
   over the extended reals before and after. -/
module

public import proofs.«01_k».proof.Proof.Reals
public import proofs.«01_k».proof.Proof.Consts
public import Mathlib.Tactic.Linarith
public import Mathlib.Tactic.Ring
public import Mathlib.Tactic.FieldSimp

@[expose] public section

noncomputable section

namespace Cert.Reals

open Idealize.ShloMosaic
open scoped BigOperators

/-! ## Rounding to the nearest integer -/

/-- The nearest integer, ties to even. -/
abbrev rnd (x : ℝ) : ℤ := Ideal.roundHalfEven x

/-- Rounding moves a number by at most one half. -/
theorem rnd_near (x : ℝ) : |x - (rnd x : ℝ)| ≤ 1 / 2 := by
  have h0 := Int.floor_le x
  have h1 := Int.lt_floor_add_one x
  unfold rnd Ideal.roundHalfEven
  simp only
  split_ifs with a b c <;> push_cast <;> rw [abs_le] <;> constructor <;> linarith

/-- Rounding commutes with subtracting 128. -/
theorem rnd_sub (x : ℝ) : rnd (x - 128) = rnd x - 128 := by
  have hf : ⌊x - 128⌋ = ⌊x⌋ - 128 := by
    have := Int.floor_sub_intCast x 128
    push_cast at this
    exact this
  have he : Even (⌊x⌋ - 128) ↔ Even ⌊x⌋ := by
    rw [Int.even_sub]
    exact ⟨fun h => h.mpr (by decide), fun h => ⟨fun _ => by decide, fun _ => h⟩⟩
  unfold rnd Ideal.roundHalfEven
  simp only [hf, he]
  have e : x - 128 - ((⌊x⌋ - 128 : ℤ) : ℝ) = x - (⌊x⌋ : ℝ) := by push_cast; ring
  rw [e]
  split_ifs <;> ring

/-- A whole number rounds to itself. -/
theorem rnd_int (z : ℤ) : rnd (z : ℝ) = z := by
  unfold rnd Ideal.roundHalfEven
  simp

theorem rnd_zero : rnd 0 = 0 := by exact_mod_cast rnd_int 0

/-- A number of magnitude at most 127 rounds to one. -/
theorem rnd_le (x : ℝ) (h : |x| ≤ 127) : -127 ≤ rnd x ∧ rnd x ≤ 127 := by
  have h1 := abs_le.mp (rnd_near x)
  have h2 := abs_le.mp h
  have a : (-128 : ℝ) < (rnd x : ℝ) := by linarith
  have b : (rnd x : ℝ) < 128 := by linarith
  have a' : (-128 : ℤ) < rnd x := by exact_mod_cast a
  have b' : rnd x < (128 : ℤ) := by exact_mod_cast b
  omega

/-! ## The quantiser -/

/-- The product of two real matrices. -/
def mm {a b c : ℕ} (f : Fin a → Fin b → ℝ) (g : Fin b → Fin c → ℝ) : Fin a → Fin c → ℝ := fun i j => ∑ k, f i k * g k j

/-- A column's scale: its largest magnitude over 127. -/
def scale {n h : ℕ} (s : Fin n → Fin h → ℝ) (j : Fin h) : ℝ := max (maxOf fun i => |s i j|) tiny / 127

/-- A column's first code. -/
def code1 {n h : ℕ} (s : Fin n → Fin h → ℝ) (i : Fin n) (j : Fin h) : ℤ := rnd (s i j / scale s j)

/-- A column's second code, of what the first leaves. -/
def code2 {n h : ℕ} (s : Fin n → Fin h → ℝ) (i : Fin n) (j : Fin h) : ℤ :=
  rnd ((s i j - code1 s i j * scale s j) / (scale s j / 254))

/-- A number, with infinity held at one and minus infinity at zero. -/
def held : EReal → ℝ
  | ⊥ => 0
  | ⊤ => 1
  | (r : ℝ) => r

/-- The adjacency's code, moved to between -128 and 127. -/
def acode {n m : ℕ} (a : Fin n → Fin m → EReal) (i : Fin n) (k : Fin m) : ℤ := max (-128) (min 127 (rnd (held (a i k) * 255 - 128)))

section Quant
variable {n h : ℕ} (s : Fin n → Fin h → ℝ)

theorem scale_pos (j : Fin h) : 0 < scale s j :=
  div_pos (lt_of_lt_of_le tiny_pos (le_max_right _ _)) (by norm_num)

theorem abs_le_scale (i : Fin n) (j : Fin h) : |s i j| ≤ 127 * scale s j := by
  have h1 : |s i j| ≤ maxOf fun i => |s i j| := le_maxOf (fun i => |s i j|) i
  have h2 : 127 * scale s j = max (maxOf fun i => |s i j|) tiny := by unfold scale; field_simp
  rw [h2]
  exact h1.trans (le_max_left _ _)

theorem code1_range (i : Fin n) (j : Fin h) : -127 ≤ code1 s i j ∧ code1 s i j ≤ 127 := by
  refine rnd_le _ ?_
  rw [abs_div, abs_of_pos (scale_pos s j), div_le_iff₀ (scale_pos s j)]
  exact abs_le_scale s i j

theorem code2_range (i : Fin n) (j : Fin h) : -127 ≤ code2 s i j ∧ code2 s i j ≤ 127 := by
  refine rnd_le _ ?_
  have ht := scale_pos s j
  have hr := rnd_near (s i j / scale s j)
  have e : (s i j - code1 s i j * scale s j) / (scale s j / 254) = 254 * (s i j / scale s j - (rnd (s i j / scale s j) : ℝ)) := by
    unfold code1; field_simp
  rw [e, abs_mul, abs_of_pos (by norm_num : (0 : ℝ) < 254)]
  linarith

theorem acode_range {m : ℕ} (a : Fin n → Fin m → EReal) (i : Fin n) (k : Fin m) : -128 ≤ acode a i k ∧ acode a i k ≤ 127 := by
  unfold acode; omega

/-- A number rounded and held between 0 and 255 is the code and 128: an infinite entry has the code of one or of zero. -/
theorem acode_add {m : ℕ} (a : Fin n → Fin m → EReal) (i : Fin n) (k : Fin m) :
    min ((255 : ℝ) : EReal) (max ((0 : ℝ) : EReal) (Ideal.liftRound Ideal.roundHalfEven (a i k * ((255 : ℝ) : EReal))))
      = (((acode a i k : ℝ) + 128 : ℝ) : EReal) := by
  have h : min 255 (max 0 (rnd (held (a i k) * 255))) = acode a i k + 128 := by
    unfold acode; rw [rnd_sub]; omega
  have h' : min 255 (max 0 ((rnd (held (a i k) * 255) : ℤ) : ℝ)) = (acode a i k : ℝ) + 128 := by exact_mod_cast h
  rw [← h']
  generalize a i k = z
  induction z with
  | bot =>
    rw [EReal.bot_mul_coe_of_pos (by norm_num), Ideal.liftRound_bot, show held ⊥ = 0 from rfl, zero_mul, rnd_zero]
    simp
  | top =>
    rw [EReal.top_mul_coe_of_pos (by norm_num), Ideal.liftRound_top, show held ⊤ = 1 from rfl, one_mul, show (255 : ℝ) = ((255 : ℤ) : ℝ) by norm_num, rnd_int]
    simp
  | coe r => rw [← EReal.coe_mul, Ideal.liftRound_coe, coe_min, coe_max]; rfl

/-- The conversion to an eight-bit word gives the code: an infinite value is held at the nearest end. -/
theorem acode_word {m : ℕ} (a : Fin n → Fin m → EReal) (i : Fin n) (k : Fin m) :
    Ideal.fptosi 8 (Ideal.liftRound Ideal.roundHalfEven (a i k * ((255 : ℝ) : EReal) - ((128 : ℝ) : EReal))) = BitVec.ofInt 8 (acode a i k) := by
  unfold acode Ideal.fptosi
  refine congrArg (BitVec.ofInt 8) ?_
  generalize a i k = z
  induction z with
  | bot =>
    rw [EReal.bot_mul_coe_of_pos (by norm_num), EReal.bot_sub, Ideal.liftRound_bot, show held ⊥ = 0 from rfl, rnd_sub, zero_mul, rnd_zero]
    rfl
  | top =>
    rw [EReal.top_mul_coe_of_pos (by norm_num), EReal.top_sub_coe, Ideal.liftRound_top, show held ⊤ = 1 from rfl, rnd_sub, one_mul,
      show (255 : ℝ) = ((255 : ℤ) : ℝ) by norm_num, rnd_int]
    rfl
  | coe r =>
    rw [← EReal.coe_mul, ← EReal.coe_sub, Ideal.liftRound_coe, Ideal.toIntClamped_coe, Int.floor_intCast, Int.ceil_intCast, ite_self]
    rfl

/-- A code held between -128 and 127 is itself. -/
theorem clip_code1 (i : Fin n) (j : Fin h) : min 127 (max (-128) ((code1 s i j : ℤ) : ℝ)) = (code1 s i j : ℝ) := by
  have h : min 127 (max (-128) (code1 s i j)) = code1 s i j := by have := code1_range s i j; omega
  exact_mod_cast h

theorem clip_code2 (i : Fin n) (j : Fin h) : min 127 (max (-128) ((code2 s i j : ℤ) : ℝ)) = (code2 s i j : ℝ) := by
  have h : min 127 (max (-128) (code2 s i j)) = code2 s i j := by have := code2_range s i j; omega
  exact_mod_cast h

/-- The quantised support. -/
def support (i : Fin n) (j : Fin h) : ℝ := code1 s i j * scale s j + code2 s i j * (scale s j / 254)

end Quant

/-- The first aggregation: the quantised adjacency by the quantised support. -/
def agg1 {n m h : ℕ} (a : Fin n → Fin m → EReal) (s : Fin m → Fin h → ℝ) : Fin n → Fin h → ℝ :=
  mm (fun i k => ((acode a i k : ℝ) + 128) / 255) (support s)

/-- The amount the kernel adds for the codes' offset of 128. -/
def offset {m h : ℕ} (s : Fin m → Fin h → ℝ) (j : Fin h) : ℝ :=
  128 * (scale s j * (1 / 255) * (∑ k, (code1 s k j : ℝ)) + scale s j / 254 * (1 / 255) * ∑ k, (code2 s k j : ℝ))

/-- The two products of codes, scaled and offset, are the product of the quantised matrices. -/
theorem agg1_eq {n m h : ℕ} (a : Fin n → Fin m → EReal) (s : Fin m → Fin h → ℝ) (i : Fin n) (j : Fin h) :
    (∑ k, (acode a i k : ℝ) * (code1 s k j : ℝ)) * (scale s j * (1 / 255))
      + (∑ k, (acode a i k : ℝ) * (code2 s k j : ℝ)) * (scale s j / 254 * (1 / 255)) + offset s j = agg1 a s i j := by
  unfold agg1 mm offset support
  simp only [mul_add, Finset.mul_sum, Finset.sum_mul]
  rw [← Finset.sum_add_distrib, ← Finset.sum_add_distrib, ← Finset.sum_add_distrib]
  exact Finset.sum_congr rfl fun k _ => by ring

/-! ## Supports with infinite entries -/

/-- Neither infinity. -/
def Finite (x : EReal) : Prop := x ≠ ⊤ ∧ x ≠ ⊥

theorem Finite.coe {x : EReal} (h : Finite x) : x = (x.toReal : EReal) := (EReal.coe_toReal h.1 h.2).symm

theorem not_finite {x : EReal} (h : ¬ Finite x) : x = ⊤ ∨ x = ⊥ := by
  by_contra hn
  exact h ⟨fun e => hn (.inl e), fun e => hn (.inr e)⟩

/-- The terms of a finite sum of two are finite. -/
theorem finite_add {x y : EReal} (h : Finite (x + y)) : Finite x ∧ Finite y := by
  induction x <;> induction y <;> simp_all [Finite]

/-- The terms of a sum that is finite are finite. -/
theorem finite_sum {ι : Type} [Fintype ι] [DecidableEq ι] {f : ι → EReal} (h : Finite (∑ k, f k)) (k : ι) : Finite (f k) := by
  rw [← Finset.add_sum_erase _ f (Finset.mem_univ k)] at h
  exact (finite_add h).1

section Wide
variable {n h : ℕ} (S : Fin n → Fin h → EReal)

open Classical in
/-- A support whose columns with an infinite entry are put to zero: they have no codes. -/
def stand (k : Fin n) (j : Fin h) : ℝ := if ∀ k, Finite (S k j) then (S k j).toReal else 0

open Classical in
/-- A column's scale: infinite for a column with an infinite entry. -/
def scaleE (j : Fin h) : EReal := if ∀ k, Finite (S k j) then (scale (stand S) j : EReal) else ⊤

variable {S}

theorem stand_of {j : Fin h} (hf : ∀ k, Finite (S k j)) (k : Fin n) : S k j = (stand S k j : EReal) := by
  rw [stand, if_pos hf]; exact (hf k).coe

theorem stand_not {j : Fin h} (hf : ¬ ∀ k, Finite (S k j)) (k : Fin n) : stand S k j = 0 := if_neg hf

theorem scaleE_of {j : Fin h} (hf : ∀ k, Finite (S k j)) : scaleE S j = (scale (stand S) j : EReal) := if_pos hf

theorem scaleE_not {j : Fin h} (hf : ¬ ∀ k, Finite (S k j)) : scaleE S j = ⊤ := if_neg hf

theorem code1_not {j : Fin h} (hf : ¬ ∀ k, Finite (S k j)) (k : Fin n) : code1 (stand S) k j = 0 := by
  unfold code1; rw [stand_not hf, zero_div, rnd_zero]

theorem code2_not {j : Fin h} (hf : ¬ ∀ k, Finite (S k j)) (k : Fin n) : code2 (stand S) k j = 0 := by
  unfold code2; rw [stand_not hf, code1_not hf, Int.cast_zero, zero_mul, sub_zero, zero_div, rnd_zero]

/-- A quotient by infinity is zero. -/
theorem div_top (x : EReal) : Ideal.div x ⊤ = 0 := by
  rw [Ideal.div, if_neg EReal.top_ne_zero, EReal.inv_top, mul_zero]

/-- A quotient of infinity by a positive real is infinity. -/
theorem top_div {r : ℝ} (hr : 0 < r) : Ideal.div ⊤ (r : EReal) = ⊤ := by
  rw [Ideal.div_coe hr.ne', EReal.top_mul_coe_of_pos (one_div_pos.mpr hr)]

variable (S)

/-- The scale as both programs compute it. -/
theorem scaleE_eq (hn : 0 < n) (j : Fin h) :
    Ideal.div (max ((Finset.univ : Finset (Fin n)).fold max (⊥ : EReal) fun k => max (S k j) (-(S k j))) (tiny : EReal)) ((127 : ℝ) : EReal)
      = scaleE S j := by
  by_cases hf : ∀ k, Finite (S k j)
  · rw [scaleE_of hf]
    have e : (fun k => max (S k j) (-(S k j))) = fun k => ((|stand S k j| : ℝ) : EReal) := funext fun k => by
      rw [stand_of hf k]; exact abs_real _
    rw [e, fold_max_maxOf hn, ← coe_max, div_real _ _ (by norm_num)]
    rfl
  · rw [scaleE_not hf]
    obtain ⟨k, hk⟩ := not_forall.mp hf
    have ek : max (S k j) (-(S k j)) = ⊤ := by
      rcases not_finite hk with e | e <;> rw [e] <;> simp
    have e : (Finset.univ : Finset (Fin n)).fold max (⊥ : EReal) (fun k => max (S k j) (-(S k j))) = ⊤ := by
      refine top_le_iff.mp ?_
      rw [Finset.le_fold_max]
      exact .inr ⟨k, Finset.mem_univ k, ek.ge⟩
    rw [e, max_eq_left le_top]
    exact top_div (by norm_num)

/-- The first code by the scale's reciprocal. -/
theorem code1_mul (i : Fin n) (j : Fin h) :
    Ideal.liftRound Ideal.roundHalfEven (S i j * Ideal.div ((1 : ℝ) : EReal) (scaleE S j)) = ((code1 (stand S) i j : ℝ) : EReal) := by
  by_cases hf : ∀ k, Finite (S k j)
  · rw [scaleE_of hf, stand_of hf i, div_real _ _ (scale_pos _ j).ne', ← EReal.coe_mul, mul_one_div]
    rfl
  · rw [scaleE_not hf, div_top, mul_zero, code1_not hf, Int.cast_zero, ← EReal.coe_zero, Ideal.liftRound_coe]
    exact congrArg _ (by exact_mod_cast rnd_zero)

/-- The first code by a quotient. -/
theorem code1_div (i : Fin n) (j : Fin h) :
    Ideal.liftRound Ideal.roundHalfEven (Ideal.div (S i j) (scaleE S j)) = ((code1 (stand S) i j : ℝ) : EReal) := by
  by_cases hf : ∀ k, Finite (S k j)
  · rw [scaleE_of hf, stand_of hf i, div_real _ _ (scale_pos _ j).ne']
    rfl
  · rw [scaleE_not hf, div_top, code1_not hf, Int.cast_zero, ← EReal.coe_zero, Ideal.liftRound_coe]
    exact congrArg _ (by exact_mod_cast rnd_zero)

/-- The second code by the scale's reciprocal. -/
theorem code2_mul (i : Fin n) (j : Fin h) :
    Ideal.liftRound Ideal.roundHalfEven ((S i j - ((code1 (stand S) i j : ℝ) : EReal) * scaleE S j)
        * (((254 : ℝ) : EReal) * Ideal.div ((1 : ℝ) : EReal) (scaleE S j)))
      = ((code2 (stand S) i j : ℝ) : EReal) := by
  by_cases hf : ∀ k, Finite (S k j)
  · have ht := (scale_pos (stand S) j).ne'
    rw [scaleE_of hf, stand_of hf i, div_real _ _ ht, ← EReal.coe_mul, ← EReal.coe_sub, ← EReal.coe_mul, ← EReal.coe_mul, Ideal.liftRound_coe]
    unfold code2
    refine congrArg (fun r : ℝ => ((rnd r : ℝ) : EReal)) ?_
    field_simp
  · rw [scaleE_not hf, div_top, mul_zero, mul_zero, code2_not hf, Int.cast_zero, ← EReal.coe_zero, Ideal.liftRound_coe]
    exact congrArg _ (by exact_mod_cast rnd_zero)

/-- The second code by a quotient. -/
theorem code2_div (i : Fin n) (j : Fin h) :
    Ideal.liftRound Ideal.roundHalfEven (Ideal.div (S i j - ((code1 (stand S) i j : ℝ) : EReal) * scaleE S j)
        (Ideal.div (scaleE S j) ((254 : ℝ) : EReal)))
      = ((code2 (stand S) i j : ℝ) : EReal) := by
  by_cases hf : ∀ k, Finite (S k j)
  · have ht := scale_pos (stand S) j
    rw [scaleE_of hf, stand_of hf i, div_real _ _ (by norm_num), ← EReal.coe_mul, ← EReal.coe_sub, div_real _ _ (div_pos ht (by norm_num)).ne']
    rfl
  · rw [scaleE_not hf, top_div (by norm_num), div_top, code2_not hf, Int.cast_zero, ← EReal.coe_zero, Ideal.liftRound_coe]
    exact congrArg _ (by exact_mod_cast rnd_zero)

/-- A multiple of a scale: real, if the multiple is zero wherever the scale is infinite. -/
theorem mul_scaleE (j : Fin h) (r : ℝ) (hr : (¬ ∀ k, Finite (S k j)) → r = 0) : (r : EReal) * scaleE S j = ((r * scale (stand S) j : ℝ) : EReal) := by
  by_cases hf : ∀ k, Finite (S k j)
  · rw [scaleE_of hf, EReal.coe_mul]
  · rw [hr hf, zero_mul, EReal.coe_zero, zero_mul]

/-- A positive multiple of a scale, by a number that is zero wherever the scale is infinite. -/
theorem mul_scaleE_mul (j : Fin h) (r c : ℝ) (hr : (¬ ∀ k, Finite (S k j)) → r = 0) :
    (r : EReal) * (scaleE S j * (c : EReal)) = ((r * (scale (stand S) j * c) : ℝ) : EReal) := by
  by_cases hf : ∀ k, Finite (S k j)
  · rw [scaleE_of hf, EReal.coe_mul, EReal.coe_mul]
  · rw [hr hf, zero_mul, EReal.coe_zero, zero_mul]

/-- The quantised support, from the codes and the scales. -/
theorem support_eq (i : Fin n) (j : Fin h) :
    ((code1 (stand S) i j : ℝ) : EReal) * scaleE S j + ((code2 (stand S) i j : ℝ) : EReal) * Ideal.div (scaleE S j) ((254 : ℝ) : EReal)
      = (support (stand S) i j : EReal) := by
  rw [Ideal.div_coe (by norm_num), mul_scaleE S j _ fun hf => by rw [code1_not hf, Int.cast_zero],
    mul_scaleE_mul S j _ _ fun hf => by rw [code2_not hf, Int.cast_zero], ← EReal.coe_add, mul_one_div]
  rfl

/-- The first codes' scale over 255. -/
def sig1 (j : Fin h) : EReal := scaleE S j * ((1 / 255 : ℝ) : EReal)

/-- The second codes' scale over 255. -/
def sig2 (j : Fin h) : EReal := Ideal.div (scaleE S j) ((254 : ℝ) : EReal) * ((1 / 255 : ℝ) : EReal)

theorem mul_sig1 (j : Fin h) (r : ℝ) (hr : (¬ ∀ k, Finite (S k j)) → r = 0) :
    (r : EReal) * sig1 S j = ((r * (scale (stand S) j * (1 / 255)) : ℝ) : EReal) := mul_scaleE_mul S j r _ hr

theorem mul_sig2 (j : Fin h) (r : ℝ) (hr : (¬ ∀ k, Finite (S k j)) → r = 0) :
    (r : EReal) * sig2 S j = ((r * (scale (stand S) j / 254 * (1 / 255)) : ℝ) : EReal) := by
  have e : sig2 S j = scaleE S j * ((1 / 254 * (1 / 255) : ℝ) : EReal) := by
    rw [sig2, Ideal.div_coe (by norm_num), mul_assoc, ← EReal.coe_mul]
  rw [e, mul_scaleE_mul S j r _ hr]
  exact congrArg _ (by ring)

/-- The offset, from the scales and the codes' column sums. -/
theorem offset_eq (j : Fin h) :
    ((128 : ℝ) : EReal) * (sig1 S j * ((∑ k, (code1 (stand S) k j : ℝ) : ℝ) : EReal) + sig2 S j * ((∑ k, (code2 (stand S) k j : ℝ) : ℝ) : EReal))
      = (offset (stand S) j : EReal) := by
  rw [mul_comm (sig1 S j), mul_comm (sig2 S j),
    mul_sig1 S j _ fun hf => Finset.sum_eq_zero fun k _ => by rw [code1_not hf, Int.cast_zero],
    mul_sig2 S j _ fun hf => Finset.sum_eq_zero fun k _ => by rw [code2_not hf, Int.cast_zero], ← EReal.coe_add, ← EReal.coe_mul]
  unfold offset
  exact congrArg _ (by ring)

/-- The two products of codes by the scales, with the offset. -/
theorem agg1_wide {m : ℕ} (a : Fin m → Fin n → EReal) (i : Fin m) (j : Fin h) :
    ((∑ k, (acode a i k : ℝ) * (code1 (stand S) k j : ℝ) : ℝ) : EReal) * sig1 S j
      + ((∑ k, (acode a i k : ℝ) * (code2 (stand S) k j : ℝ) : ℝ) : EReal) * sig2 S j + (offset (stand S) j : EReal)
      = (agg1 a (stand S) i j : EReal) := by
  rw [mul_sig1 S j _ fun hf => Finset.sum_eq_zero fun k _ => by rw [code1_not hf, Int.cast_zero, mul_zero],
    mul_sig2 S j _ fun hf => Finset.sum_eq_zero fun k _ => by rw [code2_not hf, Int.cast_zero, mul_zero], ← EReal.coe_add, ← EReal.coe_add]
  exact congrArg _ (agg1_eq a (stand S) i j)

end Wide

/-- A real matrix read in the extended reals. -/
abbrev up {n h : ℕ} (s : Fin n → Fin h → ℝ) : Fin n → Fin h → EReal := fun k j => (s k j : EReal)

/-- A product with one half taken from the left number, and the half put back. -/
theorem half_term (x : EReal) (r : ℝ) : (x - ((1 / 2 : ℝ) : EReal)) * (r : EReal) + ((1 / 2 * r : ℝ) : EReal) = x * (r : EReal) := by
  induction x with
  | coe x => rw [← EReal.coe_sub, ← EReal.coe_mul, ← EReal.coe_add, ← EReal.coe_mul]; exact congrArg _ (by ring)
  | top =>
    rw [EReal.top_sub_coe]
    rcases lt_trichotomy r 0 with hr | rfl | hr
    · rw [EReal.top_mul_coe_of_neg hr, EReal.bot_add]
    · rw [mul_zero, EReal.coe_zero, mul_zero, add_zero]
    · rw [EReal.top_mul_coe_of_pos hr, EReal.top_add_coe]
  | bot =>
    rw [EReal.bot_sub]
    rcases lt_trichotomy r 0 with hr | rfl | hr
    · rw [EReal.bot_mul_coe_of_neg hr, EReal.top_add_coe]
    · rw [mul_zero, EReal.coe_zero, mul_zero, add_zero]
    · rw [EReal.bot_mul_coe_of_pos hr, EReal.bot_add]

/-- A product with one half taken from the left matrix, and the half put back. -/
theorem half_eq {n m h : ℕ} (a : Fin n → Fin m → EReal) (s : Fin m → Fin h → ℝ) (i : Fin n) (j : Fin h) :
    mmE (fun i k => a i k - ((1 / 2 : ℝ) : EReal)) (up s) i j + ((1 / 2 * (∑ k, s k j) : ℝ) : EReal) = mmE a (up s) i j := by
  unfold mmE
  rw [Finset.mul_sum, coe_sum, ← Finset.sum_add_distrib]
  exact Finset.sum_congr rfl fun k _ => half_term _ _

/-! ## The normalisation over groups of four -/

/-- Member `e` of column `j`'s group of four. -/
def grp (j : Fin 128) (e : Fin 4) : Fin 128 := ⟨4 * (j.val / 4) + e.val, by omega⟩

theorem grp_grp (j : Fin 128) (e e' : Fin 4) : grp (grp j e) e' = grp j e' := by
  apply Fin.ext; show 4 * ((4 * (j.val / 4) + e.val) / 4) + e'.val = 4 * (j.val / 4) + e'.val; omega

/-- The mean of a column's group. -/
def mean4 (f : Fin 128 → ℝ) (j : Fin 128) : ℝ := (∑ e : Fin 4, f (grp j e)) / 4

/-- The mean of a column's group, over the extended reals. -/
def meanE (f : Fin 128 → EReal) (j : Fin 128) : EReal := (∑ e : Fin 4, f (grp j e)) * ((1 / 4 : ℝ) : EReal)

/-- A sum of four by a number that is not negative, term by term. -/
theorem sum_mul_four (f : Fin 4 → EReal) (c : ℝ) (hc : 0 ≤ c) : (∑ e, f e * (c : EReal)) = (∑ e, f e) * (c : EReal) := by
  have h (x y : EReal) : (x + y) * (c : EReal) = x * c + y * c :=
    EReal.right_distrib_of_nonneg_of_ne_top (EReal.coe_nonneg.mpr hc) (EReal.coe_ne_top c) x y
  simp only [Fin.sum_univ_four, h]

/-- The averaging matrix's product is the mean of the group. -/
theorem avg_eq (f : Fin 128 → EReal) (j : Fin 128) :
    (∑ k : Fin 128, f k * ((if k.val / 4 = j.val / 4 then (1 / 4 : ℝ) else 0 : ℝ) : EReal)) = meanE f j := by
  rw [← Equiv.sum_comp (finProdFinEquiv (m := 32) (n := 4)), Fintype.sum_prod_type]
  have hin : ∀ x : Fin 32,
      (∑ y : Fin 4, f (finProdFinEquiv (x, y)) * ((if (finProdFinEquiv (x, y)).val / 4 = j.val / 4 then (1 / 4 : ℝ) else 0 : ℝ) : EReal))
      = if (⟨j.val / 4, by omega⟩ : Fin 32) = x then meanE f j else 0 := by
    intro x
    have hv : ∀ y : Fin 4, (finProdFinEquiv (x, y)).val / 4 = x.val := by
      intro y
      show (y.val + 4 * x.val) / 4 = x.val
      omega
    by_cases hx : (⟨j.val / 4, by omega⟩ : Fin 32) = x
    · have hx' : j.val / 4 = x.val := congrArg Fin.val hx
      rw [if_pos hx, meanE, ← sum_mul_four _ _ (by norm_num)]
      refine Finset.sum_congr rfl fun y _ => ?_
      rw [if_pos (by rw [hv, hx'])]
      have : (finProdFinEquiv (x, y) : Fin (32 * 4)) = grp j y := by
        apply Fin.ext
        show y.val + 4 * x.val = 4 * (j.val / 4) + y.val
        omega
      rw [this]
    · have hx' : ¬ x.val = j.val / 4 := fun e => hx (Fin.ext e.symm)
      rw [if_neg hx]
      refine Finset.sum_eq_zero fun y _ => ?_
      rw [if_neg (by rw [hv]; exact hx'), EReal.coe_zero, mul_zero]
  rw [Finset.sum_congr rfl fun x _ => hin x, Finset.sum_ite_eq]
  simp

/-- The mean of the squares of a row's distances from its groups' means. -/
def var4 (f : Fin 128 → ℝ) (j : Fin 128) : ℝ := mean4 (fun k => (f k - mean4 f k) * (f k - mean4 f k)) j

theorem var4_nonneg (f : Fin 128 → ℝ) (j : Fin 128) : 0 ≤ var4 f j :=
  div_nonneg (Finset.sum_nonneg fun _ _ => mul_self_nonneg _) (by norm_num)

theorem var4_eps_pos (f : Fin 128 → ℝ) (j : Fin 128) : 0 < var4 f j + eps := add_pos_of_nonneg_of_pos (var4_nonneg f j) eps_pos

/-- A column's distance from its group's mean. -/
def dist (f : Fin 128 → EReal) (j : Fin 128) : EReal := f j - meanE f j

/-- The mean of the squares of a row's distances from its groups' means. -/
def varE (f : Fin 128 → EReal) (j : Fin 128) : EReal := meanE (fun k => dist f k * dist f k) j

open Classical in
/-- A distance over the root of the variance: zero in a group with an infinite member. -/
def quot (f : Fin 128 → EReal) (j : Fin 128) : ℝ :=
  if ∀ e, Finite (f (grp j e)) then
    ((f j).toReal - mean4 (fun k => (f k).toReal) j) * (Real.sqrt (var4 (fun k => (f k).toReal) j + eps))⁻¹
  else 0

section Group
variable {f : Fin 128 → EReal} {j : Fin 128}

theorem grp_self (j : Fin 128) : grp j ⟨j.val % 4, by omega⟩ = j := by
  apply Fin.ext; show 4 * (j.val / 4) + j.val % 4 = j.val; omega

/-- A mean of reals. -/
theorem meanE_coe {r : Fin 128 → ℝ} (h : ∀ e, f (grp j e) = (r (grp j e) : EReal)) : meanE f j = (mean4 r j : EReal) := by
  unfold meanE mean4
  rw [Finset.sum_congr rfl fun e _ => h e, ← coe_sum, ← EReal.coe_mul, mul_one_div]

theorem dist_coe (h : ∀ e, Finite (f (grp j e))) (e : Fin 4) :
    dist f (grp j e) = (((f (grp j e)).toReal - mean4 (fun k => (f k).toReal) (grp j e) : ℝ) : EReal) := by
  unfold dist
  rw [meanE_coe (r := fun k => (f k).toReal) fun e' => by rw [grp_grp]; exact (h e').coe, EReal.coe_sub, ← (h e).coe]

theorem varE_coe (h : ∀ e, Finite (f (grp j e))) : varE f j = (var4 (fun k => (f k).toReal) j : EReal) := by
  unfold varE var4
  exact meanE_coe fun e => by rw [dist_coe h e, ← EReal.coe_mul]

/-- A group with an infinite member has an infinite mean. -/
theorem meanE_not (h : ¬ ∀ e, Finite (f (grp j e))) : meanE f j = ⊤ ∨ meanE f j = ⊥ := by
  have hs : ¬ Finite (∑ e, f (grp j e)) := fun hs => h (finite_sum hs)
  unfold meanE
  rcases not_finite hs with e | e <;> rw [e]
  · exact .inl (EReal.top_mul_coe_of_pos (by norm_num))
  · exact .inr (EReal.bot_mul_coe_of_pos (by norm_num))

/-- The square of a distance from an infinite mean. -/
theorem dist_not (h : ¬ ∀ e, Finite (f (grp j e))) (e : Fin 4) : dist f (grp j e) * dist f (grp j e) = ⊤ := by
  have hg : meanE f (grp j e) = ⊤ ∨ meanE f (grp j e) = ⊥ := meanE_not fun h' => h fun e' => by have := h' e'; rwa [grp_grp] at this
  unfold dist
  rcases hg with hm | hm <;> rw [hm] <;> generalize f (grp j e) = z <;> induction z <;> simp [sub_eq_add_neg]

theorem varE_not (h : ¬ ∀ e, Finite (f (grp j e))) : varE f j = ⊤ := by
  unfold varE meanE
  rw [Finset.sum_congr rfl fun e _ => dist_not h e]
  rw [Fin.sum_univ_four, EReal.top_add_top, EReal.top_add_top, EReal.top_add_top, EReal.top_mul_coe_of_pos (by norm_num)]

variable (f j)

/-- The quotient by the reciprocal root. -/
theorem quot_mul : dist f j * Ideal.rsqrt (varE f j + (eps : EReal)) = (quot f j : EReal) := by
  unfold quot
  by_cases h : ∀ e, Finite (f (grp j e))
  · have hd := dist_coe h ⟨j.val % 4, by omega⟩
    rw [grp_self] at hd
    have hp := var4_eps_pos (fun k => (f k).toReal) j
    rw [if_pos h, hd, varE_coe h, ← EReal.coe_add, Ideal.rsqrt_coe, if_neg (not_lt.mpr hp.le), if_neg hp.ne', ← EReal.coe_mul]
  · rw [if_neg h, varE_not h, EReal.top_add_coe, Ideal.rsqrt_top, mul_zero, EReal.coe_zero]

/-- The quotient by the root. -/
theorem quot_div : Ideal.div (dist f j) (Ideal.sqrt (varE f j + (eps : EReal))) = (quot f j : EReal) := by
  unfold quot
  by_cases h : ∀ e, Finite (f (grp j e))
  · have hd := dist_coe h ⟨j.val % 4, by omega⟩
    rw [grp_self] at hd
    have hp := var4_eps_pos (fun k => (f k).toReal) j
    rw [if_pos h, hd, varE_coe h, ← EReal.coe_add, Ideal.sqrt_coe, if_neg (not_lt.mpr hp.le)]
    exact (div_real _ _ (Real.sqrt_pos.mpr hp).ne').trans (congrArg _ (div_eq_mul_inv _ _))
  · rw [if_neg h, varE_not h, EReal.top_add_coe, Ideal.sqrt_top, div_top, EReal.coe_zero]

end Group

/-- A matrix normalised over groups of four columns, scaled and moved. -/
def gnorm {n : ℕ} (f : Fin n → Fin 128 → EReal) (g b : Fin 128 → ℝ) (i : Fin n) (j : Fin 128) : ℝ := quot (f i) j * g j + b j

/-! ## The whole network -/

/-- The largest of a row. -/
def top {h : ℕ} (l : Fin h → EReal) : EReal := (Finset.univ : Finset (Fin h)).fold max ⊥ l

/-- The logarithm of the softmax of each row. -/
def lsm {n h : ℕ} (l : Fin n → Fin h → EReal) (i : Fin n) (j : Fin h) : EReal :=
  l i j - top (l i) - Ideal.log (∑ k, Ideal.exp (l i k - top (l i)))

/-- A matrix with a vector added to each row. -/
def addRow {n h : ℕ} (f : Fin n → Fin h → EReal) (b : Fin h → EReal) (i : Fin n) (j : Fin h) : EReal := f i j + b j

/-- The first layer, from its support. -/
def lay1 {n m : ℕ} (a : Fin n → Fin m → EReal) (S : Fin m → Fin 128 → EReal) (b : Fin 128 → EReal) (g e : Fin 128 → ℝ) : Fin n → Fin 128 → ℝ :=
  gnorm (fun i j => max (addRow (up (agg1 a (stand S))) b i j) 0) g e

/-- The second layer, from its support and the first layer. -/
def lay2 {n m : ℕ} (a : Fin n → Fin m → EReal) (s : Fin m → Fin 128 → ℝ) (r : Fin n → Fin 128 → ℝ) (b : Fin 128 → EReal) (g e : Fin 128 → ℝ) :
    Fin n → Fin 128 → ℝ :=
  fun i j => gnorm (addRow (mmE a (up s)) b) g e i j + r i j

/-- The third layer, from its support. -/
def lay3 {n m c : ℕ} (a : Fin n → Fin m → EReal) (s : Fin m → Fin c → ℝ) (b : Fin c → EReal) : Fin n → Fin c → EReal :=
  lsm (addRow (mmE a (up s)) b)

section Net
variable {n f c : ℕ} (x : Fin n → Fin f → EReal) (adj : Fin n → Fin n → EReal) (w1 : Fin f → Fin 128 → EReal) (b1 : Fin 128 → EReal)
  (g1 e1 : Fin 128 → ℝ) (w2 : Fin 128 → Fin 128 → ℝ) (b2 : Fin 128 → EReal) (g2 e2 : Fin 128 → ℝ) (w3 : Fin 128 → Fin c → ℝ) (b3 : Fin c → EReal)

/-- The first layer. -/
def layer1 : Fin n → Fin 128 → ℝ := lay1 adj (mmE x w1) b1 g1 e1

/-- The second layer over the first's values, with the first's values added. -/
def layer2 (h : Fin n → Fin 128 → ℝ) : Fin n → Fin 128 → ℝ := lay2 adj (mm h w2) h b2 g2 e2

/-- The third layer over the second's values. -/
def layer3 (h : Fin n → Fin 128 → ℝ) : Fin n → Fin c → EReal := lay3 adj (mm h w3) b3

/-- The network. -/
def net : Fin n → Fin c → EReal := layer3 adj w3 b3 (layer2 adj w2 b2 g2 e2 (layer1 x adj w1 b1 g1 e1))

end Net

/-- A sum over ten thousand rows taken in twenty-five blocks of four hundred. -/
theorem sum_blocks (f : Fin 10000 → ℝ) :
    (∑ t : Fin 25, ∑ p : Fin 400, f ⟨400 * t.val + p.val, by omega⟩) = ∑ k, f k := by
  rw [← Equiv.sum_comp (finProdFinEquiv (m := 25) (n := 400)), Fintype.sum_prod_type]
  refine Finset.sum_congr rfl fun t _ => Finset.sum_congr rfl fun p _ => congrArg f (Fin.ext ?_)
  show 400 * t.val + p.val = p.val + 400 * t.val
  omega

end Cert.Reals

end
-- ==== Proof.Kern0.lean ====
/- The first pallas_call's values: the codes, the scales and the offset. A column of the support with an infinite entry has no codes. -/
module

public import proofs.«01_k».proof.Proof.Gen.KernelIdeal.Skeleton
public import proofs.«01_k».proof.Proof.Math

@[expose] public section

set_option maxRecDepth 16384

noncomputable section

namespace Cert.KernelIdeal.Hand

open Idealize.ShloMosaic Idealize.ShloMosaic.ValueIdx
open Cert.KernelIdeal.Gen Cert.Reals

variable (x : Fin 10000 → Fin 128 → EReal) (w : Fin 128 → Fin 128 → EReal)

/-- The product with the weights. -/
theorem k0_pay2_real : k0_pay2 (F := Ideal) (m2 x) (m2 w) = m2 (mmE x w) := by
  unfold k0_pay2
  simp only [toE_constant _ _ word_0]
  exact matmul_wide _ rfl none _ _

/-- The columns' scales. -/
theorem k0_pay3_real : k0_pay3 (F := Ideal) (m2 x) (m2 w) = mrow (scaleE (mmE x w)) := by
  unfold k0_pay3
  simp only [k0_pay2_real, toE_broadcast _ _ word_tiny, toE_broadcast _ _ word_127]
  have e : absf (F := Ideal) (φ := .f32) (m2 (mmE x w)) = m2 fun i j => max (mmE x w i j) (-(mmE x w i j)) := rfl
  rw [e]
  erw [maxCol_wide _ reduces_S10000x128_S128, row_cast]
  exact mrow_congr fun j => scaleE_eq (mmE x w) (by norm_num) j

/-- The scales' reciprocals. -/
theorem k0_pay4_real : k0_pay4 (F := Ideal) (m2 x) (m2 w) = mrow fun j => Ideal.div ((1 : ℝ) : EReal) (scaleE (mmE x w) j) := by
  unfold k0_pay4
  simp only [k0_pay3_real, toE_broadcast _ _ word_1]
  rfl

/-- The first codes, as real numbers. -/
theorem k0_pay5_real : k0_pay5 (F := Ideal) (m2 x) (m2 w) = toE (r2 fun i j => ((code1 (stand (mmE x w)) i j : ℤ) : ℝ)) := by
  unfold k0_pay5
  simp only [k0_pay2_real, k0_pay4_real]
  erw [row_repeat]
  exact real_congr fun i j => code1_mul (mmE x w) i j

/-- The second codes, as real numbers. -/
theorem k0_pay7_real : k0_pay7 (F := Ideal) (m2 x) (m2 w) = toE (r2 fun i j => ((code2 (stand (mmE x w)) i j : ℤ) : ℝ)) := by
  unfold k0_pay7
  simp only [k0_pay2_real, k0_pay3_real, k0_pay4_real, k0_pay5_real, toE_broadcast _ _ word_254]
  have e : mulf (F := Ideal) (φ := .f32) (toE fun _ => (254 : ℝ)) (mrow fun j => Ideal.div ((1 : ℝ) : EReal) (scaleE (mmE x w) j))
      = (mrow fun j => ((254 : ℝ) : EReal) * Ideal.div ((1 : ℝ) : EReal) (scaleE (mmE x w) j) : S1x128.Idx → EReal) := rfl
  rw [e]
  erw [row_repeat, row_repeat]
  exact real_congr fun i j => code2_mul (mmE x w) i j

/-- The first codes, stored at eight bits. -/
theorem k0_pay6_real : k0_pay6 (F := Ideal) (m2 x) (m2 w) = i8 (r2 (code1 (stand (mmE x w)))) := by
  unfold k0_pay6
  simp only [k0_pay5_real]
  refine (toE_fptosi_r2 _).trans (i8_r2_congr fun i j => ?_)
  have := code1_range (stand (mmE x w)) i j
  omega

/-- The second codes, stored at eight bits. -/
theorem k0_pay8_real : k0_pay8 (F := Ideal) (m2 x) (m2 w) = i8 (r2 (code2 (stand (mmE x w)))) := by
  unfold k0_pay8
  simp only [k0_pay7_real]
  refine (toE_fptosi_r2 _).trans (i8_r2_congr fun i j => ?_)
  have := code2_range (stand (mmE x w)) i j
  omega

/-- The named constant, repeated over a row. -/
theorem toE_inv255 {s : Shape} :
    (broadcast s (Named.named (F := Ideal) (φ := FTy.f32) κ "inv255" (0x3B808081#32 : BitVec 32)) : s.Idx → EReal)
      = toE (fun _ => 1 / 255) := by
  funext i; exact named_inv255

/-- The first code's scale over 255. -/
theorem k0_pay9_real : k0_pay9 (F := Ideal) (m2 x) (m2 w) = mrow (sig1 (mmE x w)) := by
  unfold k0_pay9
  simp only [k0_pay3_real, toE_inv255]
  rfl

/-- The second code's scale over 255. -/
theorem k0_pay10_real : k0_pay10 (F := Ideal) (m2 x) (m2 w) = mrow (sig2 (mmE x w)) := by
  unfold k0_pay10
  simp only [k0_pay3_real, toE_inv255, toE_broadcast _ _ word_254]
  rfl

/-- The offset. -/
theorem k0_pay1_real :
    k0_pay1 (F := Ideal) (k0_pay5 (m2 x) (m2 w)) (k0_pay7 (m2 x) (m2 w)) (k0_pay9 (m2 x) (m2 w)) (k0_pay10 (m2 x) (m2 w))
      = toE (row1 (offset (stand (mmE x w)))) := by
  unfold k0_pay1
  simp only [k0_pay5_real, k0_pay7_real, k0_pay9_real, k0_pay10_real, toE_broadcast _ _ word_128]
  erw [sumCol_real _ _ reduces_S10000x128_S128, sumCol_real _ _ reduces_S10000x128_S128, row_cast, row_cast]
  exact real_row_congr fun j => offset_eq (mmE x w) j

end Cert.KernelIdeal.Hand

end
-- ==== Proof.Kern1.lean ====
/- The second pallas_call's values: the first layer's rows, the support of the second and its column sums. -/
module

public import proofs.«01_k».proof.Proof.Kern0
public import proofs.«01_k».proof.Proof.Run2

@[expose] public section

set_option maxRecDepth 16384

noncomputable section

namespace Cert.KernelIdeal.Hand

open Idealize.ShloMosaic Idealize.ShloMosaic.ValueIdx
open Cert.KernelIdeal.Gen Cert.Reals

/-- The averaging matrix: one quarter where row and column share a group of four, zero elsewhere. -/
def avg : Fin 128 → Fin 128 → ℝ := fun k j => if k.val / 4 = j.val / 4 then 1 / 4 else 0

/-- The floor quotient by four of a row's number, as the second call computes it. -/
theorem k1_pay8_apply (i j : Fin 128) : k1_pay8 (ix2 i j) = BitVec.ofNat 32 (i.val / 4) := by
  have h : ∀ k : Fin 128, (k1_pay8 (ix2 k 0)) = BitVec.ofNat 32 (k.val / 4) := by decide +kernel
  exact h i

/-- The floor quotient by four of a column's number, as the two calls compute it. -/
def colq : IVec S128x128 32 :=
  select
    (andi
      (cmpi .ne k1_pay10
        (broadcast S128x128 (Scalar.subi (Scalar.extui (Scalar.cmpi .sgt 4#32 0#32)) (Scalar.extui (Scalar.cmpi .slt 4#32 0#32)))))
      (cmpi .ne (remsi (iota .tc S128x128 32 [1] iota_S128x128_d1_w32) (broadcast S128x128 4#32)) (broadcast S128x128 0#32)))
    (subi k1_pay9 (broadcast S128x128 1#32)) k1_pay9

theorem colq_apply (i j : Fin 128) : colq (ix2 i j) = BitVec.ofNat 32 (j.val / 4) := by
  have h : ∀ k : Fin 128, (colq (ix2 0 k)) = BitVec.ofNat 32 (k.val / 4) := by decide +kernel
  exact h j

/-- Row and column share a group. -/
def mask : IVec S128x128 1 := cmpi .eq k1_pay8 colq

theorem mask_apply (i j : Fin 128) : mask (ix2 i j) = 1#1 ↔ i.val / 4 = j.val / 4 := by
  have h : ∀ a b : Fin 32, (IntOp.cmpi .eq (BitVec.ofNat 32 a.val) (BitVec.ofNat 32 b.val) = 1#1 ↔ a.val = b.val) := by decide +kernel
  show IntOp.cmpi .eq (k1_pay8 (ix2 i j)) (colq (ix2 i j)) = 1#1 ↔ _
  rw [k1_pay8_apply, colq_apply]
  exact h ⟨i.val / 4, by omega⟩ ⟨j.val / 4, by omega⟩

/-- The normalisation the two calls compute, over the mask. -/
def gnExpr (c : IVec S128x128 1) (h : FVec Ideal S400x128 .f32) (g b : FVec Ideal S1x128 .f32) : FVec Ideal S400x128 .f32 :=
  have A : FVec Ideal S128x128 .f32 :=
    select c (broadcast S128x128 (Scalar.ofBits .f32 0x3E800000#32)) (broadcast S128x128 (Scalar.ofBits .f32 0x00000000#32))
  have d : FVec Ideal S400x128 .f32 :=
    subf h (matmul dot_S400x128_S128x128_S400x128_1_0_0_1_n_n none h A (constant S400x128 .f32 0x00000000#32))
  have v : FVec Ideal S400x128 .f32 :=
    matmul dot_S400x128_S128x128_S400x128_1_0_0_1_n_n none (mulf d d) A (constant S400x128 .f32 0x00000000#32)
  addf (mulf (mulf d (rsqrt (addf v (broadcast S400x128 (Scalar.ofBits .f32 0x3727C5AC#32)))))
    (broadcastTo S400x128 g broadcasts_S1x128_S400x128)) (broadcastTo S400x128 b broadcasts_S1x128_S400x128)

/-- The averaging matrix over the reals. -/
theorem toE_avg (c : IVec S128x128 1) (hc : ∀ i j : Fin 128, c (ix2 i j) = 1#1 ↔ i.val / 4 = j.val / 4) :
    select (α := EReal) c (toE fun _ => (1 / 4 : ℝ)) (toE fun _ => (0 : ℝ)) = toE (r2 avg) := by
  rw [toE_select]
  refine toE_r2_congr fun i j => ?_
  unfold avg
  by_cases h : i.val / 4 = j.val / 4
  · rw [if_pos h, if_pos ((hc i j).mpr h)]
  · rw [if_neg h, if_neg fun e => h ((hc i j).mp e)]

/-- A product with the averaging matrix is each group's mean. -/
theorem toE_mean (f : Fin 400 → Fin 128 → EReal) :
    matmul (F := Ideal) (φ₁ := .f32) (φ₂ := .f32) dot_S400x128_S128x128_S400x128_1_0_0_1_n_n none (m2 f) (toE (r2 avg)) (toE fun _ => (0 : ℝ))
      = m2 fun i j => meanE (f i) j :=
  (matmul_wide _ rfl none f (up avg)).trans (m2_congr fun i j => avg_eq (f i) j)

/-- The normalisation. -/
theorem gnExpr_real (c : IVec S128x128 1) (hc : ∀ i j : Fin 128, c (ix2 i j) = 1#1 ↔ i.val / 4 = j.val / 4)
    (f : Fin 400 → Fin 128 → EReal) (g b : Fin 128 → ℝ) :
    gnExpr c (m2 f) (toE (row1 g)) (toE (row1 b)) = toE (r2 (gnorm f g b)) := by
  unfold gnExpr
  simp only [toE_broadcast _ _ word_quarter, toE_broadcast _ _ word_0, toE_broadcast _ _ word_eps, toE_constant _ _ word_0,
    toE_avg c hc, toE_mean]
  have hd : mulf (F := Ideal) (φ := .f32) (subf (m2 f) (m2 fun i j => meanE (f i) j)) (subf (m2 f) (m2 fun i j => meanE (f i) j))
      = (m2 fun i k => dist (f i) k * dist (f i) k : S400x128.Idx → EReal) := rfl
  rw [hd, toE_mean]
  erw [row_repeat_real, row_repeat_real]
  refine real_congr fun i j => ?_
  refine Eq.trans (congrArg (fun z : EReal => z * (g j : EReal) + (b j : EReal)) (quot_mul (f i) j)) ?_
  rw [← EReal.coe_mul, ← EReal.coe_add]
  rfl

/-- The second call's normalisation is the one over the mask. -/
theorem k1_pay11_eq (h : FVec Ideal S400x128 .f32) (g b : FVec Ideal S1x128 .f32) :
    k1_pay11 h g b k1_pay8 (iota .tc S128x128 32 [1] iota_S128x128_d1_w32) 4#32 k1_pay9 k1_pay10 (Scalar.cmpi .sgt 4#32 0#32)
      = gnExpr mask h g b := rfl

/-- The third call's normalisation is the one over the mask. -/
theorem k2_pay12_eq (h : FVec Ideal S400x128 .f32) (g b : FVec Ideal S1x128 .f32) :
    k2_pay12 h g b k2_pay9 k2_pay10 k2_pay11 0#32 = gnExpr mask h g b := rfl

section Layer1
variable (a : Fin 400 → Fin 10000 → EReal) (S : Fin 10000 → Fin 128 → EReal) (b1 : Fin 128 → EReal) (g1 e1 : Fin 128 → ℝ)

/-- The adjacency's codes. -/
theorem codes_real :
    fptosi (F := Ideal) (φ := .f32) 8 (roundeven (subf (mulf (m2 a) (toE fun _ => (255 : ℝ))) (toE fun _ => (128 : ℝ))))
      = (i8 (r2 (acode a)) : IVec S400x10000 8) := funext fun _ => acode_word a _ _

/-- The two products' magnitudes are within the exact bound. -/
def InRange {n : ℕ} (a : Fin n → Fin 10000 → EReal) (s : Fin 10000 → Fin 128 → ℝ) : Prop :=
  (∀ i j, (∑ k, |(acode a i k : ℝ)| * |(code1 s k j : ℝ)|) ≤ 67108864) ∧
    ∀ i j, (∑ k, |(acode a i k : ℝ)| * |(code2 s k j : ℝ)|) ≤ 67108864

/-- A product of the adjacency's codes with others. -/
theorem codeDot_real (q : Fin 10000 → Fin 128 → ℤ) (hq : ∀ k j, -127 ≤ q k j ∧ q k j ≤ 127)
    (h : ∀ i j, (∑ k, |(acode a i k : ℝ)| * |(q k j : ℝ)|) ≤ 67108864) :
    sitofp (F := Ideal) .f32 (matmulI8 IntMxuNumerics.v5e dot_S400x10000_S10000x128_S400x128_1_0_0_1_n_n (i8 (r2 (acode a)))
        (i8 (r2 q)) (constantI S400x128 32 0#32))
      = toE (r2 fun i j => ∑ k, (acode a i k : ℝ) * (q k j : ℝ)) :=
  toE_matmulI8 _ rfl (r2 (acode a)) (r2 q) (fun y => acode_range a _ _)
    (fun y => by have := hq (y 0) (y 1); exact ⟨by unfold r2; omega, by unfold r2; omega⟩) h

/-- The first aggregation of a block of rows. -/
theorem k1_pay3_real (h : InRange a (stand S)) :
    k1_pay3 (F := Ideal) (m2 a) (i8 (r2 (code1 (stand S)))) (i8 (r2 (code2 (stand S)))) (mrow (sig1 S)) (mrow (sig2 S))
        (toE (row1 (offset (stand S))))
      = toE (r2 (agg1 a (stand S))) := by
  unfold k1_pay3
  simp only [toE_broadcast _ _ word_255, toE_broadcast _ _ word_128, codes_real, shapeCast_self, codeDot_real a _ (code1_range (stand S)) h.1,
    codeDot_real a _ (code2_range (stand S)) h.2]
  erw [row_repeat, row_repeat, row_repeat_real]
  exact real_congr fun i j => agg1_wide S a i j

/-- The bias added and the negative part dropped. -/
theorem k1_pay5_real (f : Fin 400 → Fin 128 → ℝ) :
    k1_pay5 (F := Ideal) (toE (r2 f)) (mrow b1) = m2 fun i j => max (addRow (up f) b1 i j) 0 := by
  unfold k1_pay5
  simp only [toE_broadcast _ _ word_0]
  erw [row_repeat]
  rfl

/-- A block of the first layer's rows. -/
theorem h1Blk_real (h : InRange a (stand S)) :
    h1Blk (F := Ideal) (m2 a) (i8 (r2 (code1 (stand S)))) (i8 (r2 (code2 (stand S)))) (mrow (sig1 S)) (mrow (sig2 S))
        (toE (row1 (offset (stand S)))) (mrow b1) (toE (row1 g1)) (toE (row1 e1))
      = toE (r2 (lay1 a S b1 g1 e1)) := by
  unfold h1Blk k1_pay12 k1_pay4 k1_pay6 k1_pay7
  simp only [shapeCast_self, k1_pay3_real a S h, k1_pay5_real]
  rw [k1_pay11_eq, gnExpr_real mask mask_apply, toE_truncf]
  rfl

/-- A block of the second layer's support. -/
theorem s2Blk_real (h : InRange a (stand S)) (w2 : Fin 128 → Fin 128 → ℝ) :
    s2Blk (F := Ideal) (m2 a) (i8 (r2 (code1 (stand S)))) (i8 (r2 (code2 (stand S)))) (mrow (sig1 S)) (mrow (sig2 S))
        (toE (row1 (offset (stand S)))) (mrow b1) (toE (row1 g1)) (toE (row1 e1)) (toE (r2 w2))
      = toE (r2 (mm (lay1 a S b1 g1 e1) w2)) := by
  unfold s2Blk k1_pay13 k1_pay4 k1_pay6 k1_pay7
  simp only [shapeCast_self, k1_pay3_real a S h, k1_pay5_real]
  rw [k1_pay11_eq, gnExpr_real mask mask_apply, toE_constant _ _ word_0]
  exact congrArg (fun v => truncf (F := Ideal) (φ := .f32) .bf16 v bitsLt_bf16_f32)
    (toE_matmul (φ₁ := .f32) (φ₂ := .f32) dot_S400x128_S128x128_S400x128_1_0_0_1_n_n rfl none _ _)

end Layer1

/-- A block of the adjacency less one half, with a unit axis in front. -/
def halfBlk (a : Fin 400 → Fin 10000 → EReal) : S1x400x10000.Idx → EReal := fun y => a (y 1) (y 2) - ((1 / 2 : ℝ) : EReal)

/-- The second call's stored block is the adjacency less one half. -/
theorem k1_pay2_block (a : Fin 400 → Fin 10000 → EReal) : k1_pay2 (F := Ideal) (m2 a) = halfBlk a := by
  unfold k1_pay2
  simp only [toE_broadcast _ _ word_half]
  funext y
  obtain ⟨u, i, k, rfl⟩ : ∃ (u : Fin 1) (i : Fin 400) (k : Fin 10000), y = ix3 u i k := ⟨y 0, y 1, y 2, eq_ix3 y⟩
  rw [shapeCast_ab_1ab_apply]
  rfl

/-- The column sums so far and a block's. -/
theorem k1_pay1_real (s2 : Fin 400 → Fin 128 → ℝ) (d : Fin 128 → ℝ) :
    k1_pay1 (F := Ideal) (toE (r2 s2)) (toE (row1 d)) = toE (row1 fun j => d j + ∑ p, s2 p j) := by
  unfold k1_pay1
  simp only [toE_extf, shapeCast_self]
  erw [toE_sum _ _ reduces_S400x128_S128]
  simp only [toE_shapeCast, toE_addf]
  refine toE_row1_congr fun j => ?_
  rw [shapeCast_a_1a_apply]
  simp only [lift_col]
  rfl

/-- The column sums' start. -/
theorem k1_pay14_real : k1_pay14 (F := Ideal) = toE (row1 fun _ => 0) := by
  unfold k1_pay14
  simp only [toE_broadcast _ _ word_0]
  exact toE_row1_congr fun j => rfl

end Cert.KernelIdeal.Hand

end
-- ==== Proof.Kern2.lean ====
/- The third call's values. -/
module

public import proofs.«01_k».proof.Proof.Kern1
public import proofs.«01_k».proof.Proof.Run2

@[expose] public section

set_option maxRecDepth 16384

noncomputable section

namespace Cert.KernelIdeal.Hand

open Idealize.ShloMosaic Idealize.ShloMosaic.ValueIdx
open Cert.KernelIdeal.Gen Cert.Reals

/-- A column broadcast along the rows. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section
variable (a : Fin 400 → Fin 10000 → EReal)

/-- The stored adjacency less one half, with its unit axis dropped. -/
theorem half_cast (h) : shapeCast S400x10000 (halfBlk a) h = m2 fun i k => a i k - ((1 / 2 : ℝ) : EReal) := by
  refine m2_congr fun i k => ?_
  rw [shapeCast_1ab_ab_apply]
  rfl

/-- The product of the adjacency less one half with a support. -/
theorem halfDot {n : ℕ} (d : DotDims S400x10000 ⟨2, ![10000, n]⟩ ⟨2, ![400, n]⟩) (hd : d = DotDims.plain 400 10000 n) (s : Fin 10000 → Fin n → ℝ) (h) :
    matmul (F := Ideal) (φ₁ := .bf16) (φ₂ := .bf16) d none (extf (φ := .fp8e4m3) .bf16 (m2 fun i k => a i k - ((1 / 2 : ℝ) : EReal)) h) (toE (r2 s))
        (toE fun _ => (0 : ℝ))
      = m2 (mmE (fun i k => a i k - ((1 / 2 : ℝ) : EReal)) (up s)) :=
  matmul_wide d hd none (φ₁ := .bf16) (φ₂ := .bf16) (fun i k => a i k - ((1 / 2 : ℝ) : EReal)) (up s)

/-- Half the column sums, repeated along the rows. -/
theorem halfRow {n : ℕ} (v : Fin n → ℝ) (h : (⟨2, ![1, n]⟩ : Shape).Broadcasts ⟨2, ![400, n]⟩) :
    broadcastTo (α := EReal) ⟨2, ![400, n]⟩ (toE fun i => 1 / 2 * row1 v i) h = m2 fun _ j => ((1 / 2 * v j : ℝ) : EReal) :=
  row_repeat_real (fun j => 1 / 2 * v j) h

/-- The second aggregation of a block of rows, with its bias. -/
theorem k2_pay6_real (s : Fin 10000 → Fin 128 → ℝ) (b : Fin 128 → EReal) :
    k2_pay6 (F := Ideal) (halfBlk a) (toE (r2 s)) (toE (row1 fun j => ∑ k, s k j)) (mrow b) = m2 (addRow (mmE a (up s)) b) := by
  unfold k2_pay6
  simp only [half_cast, shapeCast_self, toE_constant _ _ word_0, toE_broadcast _ _ word_half, toE_mulf]
  erw [halfDot a dot_S400x10000_S10000x128_S400x128_1_0_0_1_n_n rfl s, halfRow, row_repeat]
  exact m2_congr fun i j => congrArg (· + b j) (half_eq a s i j)

/-- A block of layer 2's rows after the normalisation. -/
theorem gn2Blk_real (s : Fin 10000 → Fin 128 → ℝ) (b : Fin 128 → EReal) (g e : Fin 128 → ℝ) :
    gn2Blk (F := Ideal) (halfBlk a) (toE (r2 s)) (toE (row1 fun j => ∑ k, s k j)) (mrow b)
        (toE (row1 g)) (toE (row1 e))
      = toE (r2 (gnorm (addRow (mmE a (up s)) b) g e)) := by
  unfold gn2Blk k2_pay7 k2_pay8
  simp only [shapeCast_self, k2_pay6_real]
  rw [k2_pay12_eq, gnExpr_real mask mask_apply]

/-- A block of layer 3's support, before it is stored. -/
theorem k2_pay1_real (f h : Fin 400 → Fin 128 → ℝ) (w : Fin 128 → Fin 64 → ℝ) :
    k2_pay1 (F := Ideal) (toE (r2 f)) (toE (r2 h)) (toE (r2 w)) = toE (r2 (mm (fun i j => f i j + h i j) w)) := by
  unfold k2_pay1
  simp only [shapeCast_self, toE_extf, toE_addf, toE_constant _ _ word_0]
  exact congrArg (fun v => truncf (F := Ideal) (φ := .f32) .bf16 v bitsLt_bf16_f32)
    (toE_matmul (φ₁ := .f32) (φ₂ := .f32) dot_S400x128_S128x64_S400x64_1_0_0_1_n_n rfl none _ _)

/-- A block of layer 3's support. -/
theorem s3Blk_real (s : Fin 10000 → Fin 128 → ℝ) (b : Fin 128 → EReal) (g e : Fin 128 → ℝ) (h : Fin 400 → Fin 128 → ℝ) (w : Fin 128 → Fin 64 → ℝ) :
    s3Blk (F := Ideal) (halfBlk a) (toE (r2 s)) (toE (row1 fun j => ∑ k, s k j)) (toE (r2 h))
        (mrow b) (toE (row1 g)) (toE (row1 e)) (toE (r2 w))
      = toE (r2 (mm (lay2 a s h b g e) w)) := by
  unfold s3Blk k2_pay2
  simp only [shapeCast_self, gn2Blk_real, k2_pay1_real]
  rfl

/-- The column sums of layer 3's support so far and a block's. -/
theorem d3Blk_real (s : Fin 10000 → Fin 128 → ℝ) (b : Fin 128 → EReal) (g e : Fin 128 → ℝ) (h : Fin 400 → Fin 128 → ℝ) (w : Fin 128 → Fin 64 → ℝ) (d : Fin 64 → ℝ) :
    d3Blk (F := Ideal) (halfBlk a) (toE (r2 s)) (toE (row1 fun j => ∑ k, s k j)) (toE (r2 h))
        (mrow b) (toE (row1 g)) (toE (row1 e)) (toE (r2 w)) (toE (row1 d))
      = toE (row1 fun j => d j + ∑ p, mm (lay2 a s h b g e) w p j) := by
  unfold d3Blk k2_pay4
  simp only [shapeCast_self, gn2Blk_real, k2_pay1_real, toE_extf]
  erw [toE_sum _ _ reduces_S400x64_S64]
  simp only [toE_shapeCast, toE_addf]
  refine toE_row1_congr fun j => ?_
  rw [shapeCast_a_1a_apply]
  simp only [lift_col]
  rfl

/-- The column sums' start. -/
theorem k2_pay3_real : k2_pay3 (F := Ideal) = toE (row1 fun _ => 0) := by
  unfold k2_pay3
  simp only [toE_broadcast _ _ word_0, shapeCast_self]
  exact toE_row1_congr fun j => rfl

/-- The logarithm of the softmax of each row, as the third call computes it. -/
def lsmExpr (l : FVec Ideal S400x64 .f32) : FVec Ideal S400x64 .f32 :=
  have d : FVec Ideal S400x64 .f32 :=
    subf l (broadcastTo S400x64 (shapeCast S400x1 (multiReduction .maximumf [1] S400 l 0xFF800000#32 reduces_S400x64_S400 (.inl rfl) rfl)
      shapeCasts_S400_S400x1) broadcasts_S400x1_S400x64)
  subf d (broadcastTo S400x64 (log (shapeCast S400x1 (multiReduction .add [1] S400 (exp d) 0x00000000#32 reduces_S400x64_S400 (.inl rfl) rfl)
    shapeCasts_S400_S400x1)) broadcasts_S400x1_S400x64)

/-- The third aggregation with its bias, as the third call computes it. -/
def logitExpr (x0 : Vec Ideal S1x400x10000 .fp8e4m3) (s : Vec Ideal S10000x64 .bf16) (d b : Vec Ideal S1x64 .f32) : FVec Ideal S400x64 .f32 :=
  addf (addf (matmul (φ₁ := .bf16) (φ₂ := .bf16) dot_S400x10000_S10000x64_S400x64_1_0_0_1_n_n none
      (extf (φ := .fp8e4m3) .bf16 (shapeCast S400x10000 x0 shapeCasts_S1x400x10000_S400x10000) bitsLt_fp8e4m3_bf16) s (constant S400x64 .f32 0x00000000#32))
      (broadcastTo S400x64 (mulf (broadcast S1x64 (Scalar.ofBits .f32 0x3F000000#32)) d) broadcasts_S1x64_S400x64))
    (broadcastTo S400x64 (shapeCast S1x64 b shapeCasts_S1x64_S1x64) broadcasts_S1x64_S400x64)

theorem k2_pay5_eq (x0 : Vec Ideal S1x400x10000 .fp8e4m3) (s : Vec Ideal S10000x64 .bf16) (d b : Vec Ideal S1x64 .f32) :
    k2_pay5 (F := Ideal) x0 s d b = lsmExpr (logitExpr x0 s d b) := rfl

/-- The third aggregation of a block of rows, with its bias. -/
theorem logitExpr_real (s : Fin 10000 → Fin 64 → ℝ) (b : Fin 64 → EReal) :
    logitExpr (halfBlk a) (toE (r2 s)) (toE (row1 fun j => ∑ k, s k j)) (mrow b) = m2 (addRow (mmE a (up s)) b) := by
  unfold logitExpr
  simp only [half_cast, shapeCast_self, toE_constant _ _ word_0, toE_broadcast _ _ word_half, toE_mulf]
  erw [halfDot a dot_S400x10000_S10000x64_S400x64_1_0_0_1_n_n rfl s, halfRow, row_repeat]
  exact m2_congr fun i j => congrArg (· + b j) (half_eq a s i j)

/-- A vector as a column, repeated along the rows. -/
theorem column_repeat (f : Fin 400 → EReal) :
    broadcastTo S400x64 (shapeCast S400x1 (m1 f) shapeCasts_S400_S400x1) broadcasts_S400x1_S400x64 = m2 fun i _ => f i :=
  m2_congr fun i j => by rw [broadcastTo_a1_ab_apply, shapeCast_a_a1_apply]; rfl

/-- The largest of each row. -/
theorem rowMax_real (l : Fin 400 → Fin 64 → EReal) :
    multiReduction (F := Ideal) (φ := .f32) .maximumf [1] S400 (m2 l) 0xFF800000#32 reduces_S400x64_S400 (.inl rfl) rfl = m1 fun i => top (l i) :=
  maxRow_wide l reduces_S400x64_S400 _ _

/-- The sum of each row. -/
theorem rowSum_real (l : Fin 400 → Fin 64 → EReal) :
    multiReduction (F := Ideal) (φ := .f32) .add [1] S400 (m2 l) 0x00000000#32 reduces_S400x64_S400 (.inl rfl) rfl = m1 fun i => ∑ k, l i k :=
  sumRow_wide l _ reduces_S400x64_S400 _ _

/-- The logarithm of the softmax. -/
theorem lsmExpr_real (l : Fin 400 → Fin 64 → EReal) : lsmExpr (m2 l) = m2 (lsm l) := by
  unfold lsmExpr
  rw [rowMax_real, column_repeat]
  have hd : subf (F := Ideal) (φ := .f32) (m2 l) (m2 fun i _ => top (l i))
      = (m2 fun i j => l i j - top (l i) : S400x64.Idx → EReal) := rfl
  rw [hd]
  have he : exp (F := Ideal) (φ := .f32) (m2 fun i j => l i j - top (l i)) = (m2 fun i j => Ideal.exp (l i j - top (l i)) : S400x64.Idx → EReal) := rfl
  dsimp only
  rw [he, rowSum_real]
  have hl : log (F := Ideal) (φ := .f32) (shapeCast S400x1 (m1 fun i => ∑ k, Ideal.exp (l i k - top (l i))) shapeCasts_S400_S400x1)
      = (shapeCast S400x1 (m1 fun i => Ideal.log (∑ k, Ideal.exp (l i k - top (l i)))) shapeCasts_S400_S400x1 : S400x1.Idx → EReal) := rfl
  rw [hl, column_repeat]
  rfl

/-- A block of the result. -/
theorem k2_pay5_real (s : Fin 10000 → Fin 64 → ℝ) (b : Fin 64 → EReal) :
    k2_pay5 (F := Ideal) (halfBlk a) (toE (r2 s)) (toE (row1 fun j => ∑ k, s k j)) (mrow b) = m2 (lay3 a s b) := by
  rw [k2_pay5_eq, logitExpr_real, lsmExpr_real]
  rfl

end

end Cert.KernelIdeal.Hand

end
-- ==== Proof.Vals0.lean ====
/- The first call's arrays on extended real inputs: the codes of the first support, its scales and its column offsets. -/
module

public import proofs.«01_k».proof.Proof.Kern2
public import proofs.«01_k».proof.Proof.Run
public import Idealize.ShloMosaic.Lib.Pipeline.ValueKit

@[expose] public section

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal.Gen Cert.Reals

/-- Contents of every buffer when a call is entered. -/
abbrev Entry : Type := (c : Dev nD) → (b : Ref sig .tc) → Buf (Elt Ideal) ((c : Thread nD τ).loc b)

section Call0
variable (V : Entry) (c : Dev nD) (x : Fin 10000 → Fin 128 → EReal) (w : Fin 128 → Fin 128 → EReal)

/-- The first call's blocks are its arrays. -/
theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem iblk0_0 (t : Fin cfg0.N) : iblk0 V c 0 t = V c main_arg0 := by blk_ext! [iblk0, idx0 t]
theorem iblk0_1 (t : Fin cfg0.N) : iblk0 V c 1 t = V c main_arg2 := by blk_ext! [iblk0, idx0 t]

variable (hx : V c main_arg0 = (m2 x : S10000x128.Idx → EReal)) (hw : V c main_arg2 = (m2 w : S128x128.Idx → EReal))
include hx hw

/-- The first codes. -/
theorem arr0_2 : (dat0 V c).arrAt 2 cfg0.N = (i8 (r2 (code1 (stand (mmE x w)))) : S10000x128.Idx → BitVec 8) := by
  refine (dat0 V c).arrAt_eq_of_covers 2 _ (by decide +kernel) fun t _ y => ?_
  blk_simp
  rw [after0_2, iblk0_0, iblk0_1, hx, hw]
  erw [k0_pay6_real]
  blk_ext [idx0 t]

/-- The second codes. -/
theorem arr0_3 : (dat0 V c).arrAt 3 cfg0.N = (i8 (r2 (code2 (stand (mmE x w)))) : S10000x128.Idx → BitVec 8) := by
  refine (dat0 V c).arrAt_eq_of_covers 3 _ (by decide +kernel) fun t _ y => ?_
  blk_simp
  rw [after0_3, iblk0_0, iblk0_1, hx, hw]
  erw [k0_pay8_real]
  blk_ext [idx0 t]

/-- The first codes' scales over 255. -/
theorem arr0_4 : (dat0 V c).arrAt 4 cfg0.N = (mrow (sig1 (mmE x w)) : S1x128.Idx → EReal) := by
  refine (dat0 V c).arrAt_eq_of_covers 4 _ (by decide +kernel) fun t _ y => ?_
  blk_simp
  rw [after0_4, iblk0_0, iblk0_1, hx, hw]
  erw [k0_pay9_real]
  blk_ext [idx0 t]

/-- The second codes' scales over 255. -/
theorem arr0_5 : (dat0 V c).arrAt 5 cfg0.N = (mrow (sig2 (mmE x w)) : S1x128.Idx → EReal) := by
  refine (dat0 V c).arrAt_eq_of_covers 5 _ (by decide +kernel) fun t _ y => ?_
  blk_simp
  rw [after0_5, iblk0_0, iblk0_1, hx, hw]
  erw [k0_pay10_real]
  blk_ext [idx0 t]

/-- The offsets. -/
theorem arr0_6 : (dat0 V c).arrAt 6 cfg0.N = (toE (row1 (offset (stand (mmE x w)))) : S1x128.Idx → EReal) := by
  refine (dat0 V c).arrAt_eq_of_covers 6 _ (by decide +kernel) fun t _ y => ?_
  blk_simp
  rw [after0_6, iblk0_0, iblk0_1, hx, hw]
  unfold offset0
  erw [k0_pay1_real]
  blk_ext [idx0 t]

end Call0

end Cert.KernelIdeal.Hand

end
-- ==== Proof.Vals1.lean ====
/- The second call's arrays on extended real inputs: the adjacency less one half, the first layer, the second support and its column sums. -/
module

public import proofs.«01_k».proof.Proof.Vals0

@[expose] public section

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal.Gen Cert.Reals

/-- Row `p` of the `o`-th block of four hundred rows. -/
def rows {α : Type} {n : ℕ} (f : Fin 10000 → Fin n → α) (o : ℕ) (p : Fin 400) : Fin n → α :=
  f ⟨(400 * o + p.val) % 10000, Nat.mod_lt _ (by norm_num)⟩

/-- An entry of a block of rows is the matrix's entry. -/
theorem rows_wide {n : ℕ} (f : Fin 10000 → Fin n → EReal) (o : ℕ) (y : (⟨2, ![400, n]⟩ : Shape).Idx) (z : (⟨2, ![10000, n]⟩ : Shape).Idx)
    (h0 : (z 0).val = 400 * o + (y 0).val) (h1 : (z 1).val = (y 1).val) : m2 (rows f o) y = m2 f z := by
  have e0 : (⟨(400 * o + (y 0).val) % 10000, Nat.mod_lt _ (by norm_num)⟩ : Fin 10000) = z 0 := Fin.ext (by
    have := (z 0).isLt
    change (z 0).val < 10000 at this
    show (400 * o + (y 0).val) % 10000 = (z 0).val
    omega)
  have e1 : (y 1 : Fin n) = z 1 := Fin.ext h1.symm
  show f ⟨(400 * o + (y 0).val) % 10000, _⟩ (y 1) = f (z 0) (z 1)
  rw [e0, e1]

/-- The same of a matrix of reals. -/
theorem rows_at {n : ℕ} (f : Fin 10000 → Fin n → ℝ) (o : ℕ) (y : (⟨2, ![400, n]⟩ : Shape).Idx) (z : (⟨2, ![10000, n]⟩ : Shape).Idx)
    (h0 : (z 0).val = 400 * o + (y 0).val) (h1 : (z 1).val = (y 1).val) : toE (r2 (rows f o)) y = toE (r2 f) z :=
  rows_wide (up f) o y z h0 h1

/-- The adjacency less one half, in blocks of four hundred rows. -/
def halves (a : Fin 10000 → Fin 10000 → EReal) (y : S25x400x10000.Idx) : EReal := rows a (y 0).val (y 1) (y 2) - ((1 / 2 : ℝ) : EReal)

/-- A block of the adjacency less one half, at an index of the whole. -/
theorem halves_at (a : Fin 10000 → Fin 10000 → EReal) (o : ℕ) (y : S1x400x10000.Idx) (z : S25x400x10000.Idx)
    (h0 : (z 0).val = o) (h1 : (z 1).val = (y 1).val) (h2 : (z 2).val = (y 2).val) :
    halfBlk (rows a o) y = halves a z := by
  have e1 : (y 1 : Fin 400) = z 1 := Fin.ext h1.symm
  have e2 : (y 2 : Fin 10000) = z 2 := Fin.ext h2.symm
  show rows a o (y 1) (y 2) - ((1 / 2 : ℝ) : EReal) = rows a (z 0).val (z 1) (z 2) - ((1 / 2 : ℝ) : EReal)
  rw [e1, e2, h0]

/-- A sum over all rows taken block by block. -/
theorem sum_rows {n : ℕ} (f : Fin 10000 → Fin n → ℝ) (j : Fin n) :
    (∑ o ∈ Finset.range 25, ∑ p, rows f o p j) = ∑ k, f k j := by
  rw [Finset.sum_range, ← sum_blocks fun k => f k j]
  refine Finset.sum_congr rfl fun t _ => Finset.sum_congr rfl fun p _ => congrArg (fun k => f k j) (Fin.ext ?_)
  exact Nat.mod_eq_of_lt (by omega)

/-- What the second call's input arrays hold. -/
structure In1 (V : Entry) (c : Dev nD) (a : Fin 10000 → Fin 10000 → EReal) (S : Fin 10000 → Fin 128 → EReal)
    (b : Fin 128 → EReal) (g e : Fin 128 → ℝ) (w : Fin 128 → Fin 128 → ℝ) : Prop where
  adj : V c main_arg1 = (m2 a : S10000x10000.Idx → EReal)
  q1 : V c main_v7_0 = (i8 (r2 (code1 (stand S))) : S10000x128.Idx → BitVec 8)
  q2 : V c main_v7_1 = (i8 (r2 (code2 (stand S))) : S10000x128.Idx → BitVec 8)
  s1 : V c main_v7_2 = (mrow (sig1 S) : S1x128.Idx → EReal)
  s2 : V c main_v7_3 = (mrow (sig2 S) : S1x128.Idx → EReal)
  off : V c main_v7_4 = (toE (row1 (offset (stand S))) : S1x128.Idx → EReal)
  b : V c main_v0 = (mrow b : S1x128.Idx → EReal)
  g : V c main_v1 = (toE (row1 g) : S1x128.Idx → EReal)
  e : V c main_v2 = (toE (row1 e) : S1x128.Idx → EReal)
  w : V c main_arg6 = (toE (r2 w) : S128x128.Idx → EReal)
  range : InRange a (stand S)

/-- The second call's index maps: blocks of rows for the adjacency and the row outputs, whole arrays otherwise. -/
theorem idx1 : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![0, 0]
    ∧ win1_9.index t = ![0, 0] ∧ win1_10.index t = ![t.val, 0, 0] ∧ win1_11.index t = ![t.val, 0] ∧ win1_12.index t = ![t.val, 0]
    ∧ win1_13.index t = ![0, 0] ∧ t.val < 25 :=
  (by decide +kernel : ∀ t : Fin grid1.N, _)

section Call1
variable (V : Entry) (c : Dev nD)

theorem iblk1_1 (t : Fin cfg1.N) : iblk1 V c 1 t = V c main_v7_0 := by blk_ext! [iblk1, idx1 t]
theorem iblk1_2 (t : Fin cfg1.N) : iblk1 V c 2 t = V c main_v7_1 := by blk_ext! [iblk1, idx1 t]
theorem iblk1_3 (t : Fin cfg1.N) : iblk1 V c 3 t = V c main_v7_2 := by blk_ext! [iblk1, idx1 t]
theorem iblk1_4 (t : Fin cfg1.N) : iblk1 V c 4 t = V c main_v7_3 := by blk_ext! [iblk1, idx1 t]
theorem iblk1_5 (t : Fin cfg1.N) : iblk1 V c 5 t = V c main_v7_4 := by blk_ext! [iblk1, idx1 t]
theorem iblk1_6 (t : Fin cfg1.N) : iblk1 V c 6 t = V c main_v0 := by blk_ext! [iblk1, idx1 t]
theorem iblk1_7 (t : Fin cfg1.N) : iblk1 V c 7 t = V c main_v1 := by blk_ext! [iblk1, idx1 t]
theorem iblk1_8 (t : Fin cfg1.N) : iblk1 V c 8 t = V c main_v2 := by blk_ext! [iblk1, idx1 t]
theorem iblk1_9 (t : Fin cfg1.N) : iblk1 V c 9 t = V c main_arg6 := by blk_ext! [iblk1, idx1 t]

variable {a : Fin 10000 → Fin 10000 → EReal} {S : Fin 10000 → Fin 128 → EReal}
    {b : Fin 128 → EReal} {g e : Fin 128 → ℝ} {w : Fin 128 → Fin 128 → ℝ}
variable (h : In1 V c a S b g e w)
include h

/-- A block of the adjacency's rows. -/
theorem iblk1_0 (t : Fin cfg1.N) : iblk1 V c 0 t = (m2 (rows a t.val) : S400x10000.Idx → EReal) := by
  funext y
  have ht : t.val < 25 := t.isLt.trans_eq N_1
  have e : iblk1 V c 0 t y = V c main_arg1 (ValueIdx.ix2 ⟨(400 * t.val + (y 0).val) % 10000, Nat.mod_lt _ (by norm_num)⟩ (y 1)) := by
    blk_ext [iblk1, idx1 t]
  rw [e, h.adj]
  rfl

theorem range_rows (t : Fin cfg1.N) : InRange (rows a t.val) (stand S) := ⟨fun i j => h.range.1 _ j, fun i j => h.range.2 _ j⟩

/-- A block of the first layer's rows. -/
theorem h1At_real (t : Fin cfg1.N) :
    h1Blk (iblk1 V c 0 t) (iblk1 V c 1 t) (iblk1 V c 2 t) (iblk1 V c 3 t) (iblk1 V c 4 t) (iblk1 V c 5 t) (iblk1 V c 6 t) (iblk1 V c 7 t) (iblk1 V c 8 t)
      = toE (r2 (rows (lay1 a S b g e) t.val)) := by
  rw [iblk1_0 V c h, iblk1_1, iblk1_2, iblk1_3, iblk1_4, iblk1_5, iblk1_6, iblk1_7, iblk1_8, h.q1, h.q2, h.s1, h.s2, h.off, h.b, h.g, h.e]
  exact h1Blk_real (rows a t.val) S b g e (range_rows V c h t)

/-- A block of the second support's rows. -/
theorem s2At_real (t : Fin cfg1.N) : s2At V c t = toE (r2 (rows (mm (lay1 a S b g e) w) t.val)) := by
  unfold s2At
  rw [iblk1_0 V c h, iblk1_1, iblk1_2, iblk1_3, iblk1_4, iblk1_5, iblk1_6, iblk1_7, iblk1_8, iblk1_9, h.q1, h.q2, h.s1, h.s2, h.off, h.b, h.g, h.e, h.w]
  exact s2Blk_real (rows a t.val) S b g e (range_rows V c h t) w

/-- The column sums of the second support's first blocks. -/
theorem d2At_real (n : ℕ) (hn : n < cfg1.N) :
    d2At V c n hn = toE (row1 fun j => ∑ o ∈ Finset.range (n + 1), ∑ p, rows (mm (lay1 a S b g e) w) o p j) := by
  induction n with
  | zero =>
    unfold d2At
    rw [s2At_real V c h, k1_pay14_real, k1_pay1_real]
    exact toE_row1_congr fun j => by rw [Finset.sum_range_one, row1_ix2, zero_add]
  | succ n ih =>
    unfold d2At
    rw [s2At_real V c h, ih, k1_pay1_real]
    exact toE_row1_congr fun j => by rw [row1_ix2, Finset.sum_range_succ _ (n + 1)]

/-- The adjacency less one half. -/
theorem arr1_10 : (dat1 V c).arrAt 10 cfg1.N = (halves a : S25x400x10000.Idx → EReal) := by
  refine (dat1 V c).arrAt_eq_of_covers 10 _ (by decide +kernel) fun t _ y => ?_
  have ht : t.val < 25 := t.isLt.trans_eq N_1
  blk_simp
  rw [after1_10, iblk1_0 V c h, k1_pay2_block]
  apply halves_at
  · blk_simp [idx1 t]
  · blk_simp [idx1 t]
  · blk_simp [idx1 t]

/-- The first layer. -/
theorem arr1_11 : (dat1 V c).arrAt 11 cfg1.N = (toE (r2 (lay1 a S b g e)) : S10000x128.Idx → EReal) := by
  refine (dat1 V c).arrAt_eq_of_covers 11 _ (by decide +kernel) fun t _ y => ?_
  have ht : t.val < 25 := t.isLt.trans_eq N_1
  blk_simp
  rw [after1_11, h1At_real V c h]
  apply rows_at
  · blk_simp [idx1 t]; omega
  · blk_simp [idx1 t]

/-- The second support. -/
theorem arr1_12 : (dat1 V c).arrAt 12 cfg1.N = (toE (r2 (mm (lay1 a S b g e) w)) : S10000x128.Idx → EReal) := by
  refine (dat1 V c).arrAt_eq_of_covers 12 _ (by decide +kernel) fun t _ y => ?_
  have ht : t.val < 25 := t.isLt.trans_eq N_1
  blk_simp
  rw [after1_12, s2At_real V c h]
  apply rows_at
  · blk_simp [idx1 t]; omega
  · blk_simp [idx1 t]

/-- The second support's column sums. -/
theorem arr1_13 : (dat1 V c).arrAt 13 cfg1.N = (toE (row1 fun j => ∑ k, mm (lay1 a S b g e) w k j) : S1x128.Idx → EReal) := by
  refine (dat1 V c).arrAt_eq_of_covers 13 _ (by decide +kernel) fun t hf y => ?_
  have ht : t.val < 25 := t.isLt.trans_eq N_1
  have h24 : t.val = 24 := by have := (flush1_13 t).mp hf; omega
  blk_simp
  rw [after1_13, d2At_real V c h, h24]
  refine Eq.trans ?_ (congrArg (toE (row1 fun j => ∑ k, mm (lay1 a S b g e) w k j)) (?_ : y = _))
  · exact congrArg (fun r : ℝ => (r : EReal)) (sum_rows _ _)
  · blk_ext [idx1 t]

end Call1

end Cert.KernelIdeal.Hand

end
-- ==== Proof.Vals2.lean ====
/- The third call's array on extended real inputs: the result. -/
module

public import proofs.«01_k».proof.Proof.Vals1

@[expose] public section

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal.Gen Cert.Reals

/-- What the third call's input arrays hold: the adjacency less one half, the second support and its column sums, the first layer. -/
structure In2 (V : Entry) (c : Dev nD) (a : Fin 10000 → Fin 10000 → EReal) (s h1 : Fin 10000 → Fin 128 → ℝ)
    (b : Fin 128 → EReal) (g e : Fin 128 → ℝ) (w : Fin 128 → Fin 64 → ℝ) (b3 : Fin 64 → EReal) : Prop where
  adj : V c main_v8_0 = (halves a : S25x400x10000.Idx → EReal)
  a_s : V c main_v8_2 = (toE (r2 s) : S10000x128.Idx → EReal)
  a_d : V c main_v8_3 = (toE (row1 fun j => ∑ k, s k j) : S1x128.Idx → EReal)
  a_h1 : V c main_v8_1 = (toE (r2 h1) : S10000x128.Idx → EReal)
  a_b : V c main_v3 = (mrow b : S1x128.Idx → EReal)
  a_g : V c main_v4 = (toE (row1 g) : S1x128.Idx → EReal)
  a_e : V c main_v5 = (toE (row1 e) : S1x128.Idx → EReal)
  a_w : V c main_arg10 = (toE (r2 w) : S128x64.Idx → EReal)
  a_b3 : V c main_v6 = (mrow b3 : S1x64.Idx → EReal)

/-- The third call's index maps: the same block of rows in both phases for the adjacency, the result's blocks in the second phase. -/
theorem idx2 : ∀ t : Fin cfg2.N, win2_0.index t = ![t.val % 25, 0, 0] ∧ win2_1.index t = ![0, 0] ∧ win2_2.index t = ![0, 0]
    ∧ win2_3.index t = ![t.val % 25, 0] ∧ win2_4.index t = ![0, 0] ∧ win2_5.index t = ![0, 0] ∧ win2_6.index t = ![0, 0]
    ∧ win2_7.index t = ![0, 0] ∧ win2_8.index t = ![0, 0] ∧ win2_9.index t = ![t.val - 25, 0] ∧ t.val < 50 :=
  (by decide +kernel : ∀ t : Fin grid2.N, _)

section Call2
variable (V : Entry) (c : Dev nD)

theorem iblk2_1 (t : Fin cfg2.N) : iblk2 V c 1 t = V c main_v8_2 := by blk_ext! [iblk2, idx2 t]
theorem iblk2_2 (t : Fin cfg2.N) : iblk2 V c 2 t = V c main_v8_3 := by blk_ext! [iblk2, idx2 t]
theorem iblk2_4 (t : Fin cfg2.N) : iblk2 V c 4 t = V c main_v3 := by blk_ext! [iblk2, idx2 t]
theorem iblk2_5 (t : Fin cfg2.N) : iblk2 V c 5 t = V c main_v4 := by blk_ext! [iblk2, idx2 t]
theorem iblk2_6 (t : Fin cfg2.N) : iblk2 V c 6 t = V c main_v5 := by blk_ext! [iblk2, idx2 t]
theorem iblk2_7 (t : Fin cfg2.N) : iblk2 V c 7 t = V c main_arg10 := by blk_ext! [iblk2, idx2 t]
theorem iblk2_8 (t : Fin cfg2.N) : iblk2 V c 8 t = V c main_v6 := by blk_ext! [iblk2, idx2 t]

variable {a : Fin 10000 → Fin 10000 → EReal} {s h1 : Fin 10000 → Fin 128 → ℝ} {b : Fin 128 → EReal} {g e : Fin 128 → ℝ}
    {w : Fin 128 → Fin 64 → ℝ} {b3 : Fin 64 → EReal}
variable (h : In2 V c a s h1 b g e w b3)
include h

/-- A block of the adjacency less one half. -/
theorem iblk2_0 (t : Fin cfg2.N) :
    iblk2 V c 0 t = halfBlk (rows a (t.val % 25)) := by
  funext y
  have e : iblk2 V c 0 t y = V c main_v8_0 (ValueIdx.ix3 ⟨t.val % 25, Nat.mod_lt _ (by norm_num)⟩ (y 1) (y 2)) := by
    blk_ext [iblk2, idx2 t]
  rw [e, h.adj]
  rfl

/-- A block of the first layer's rows. -/
theorem iblk2_3 (t : Fin cfg2.N) : iblk2 V c 3 t = (toE (r2 (rows h1 (t.val % 25))) : S400x128.Idx → EReal) := by
  funext y
  have e : iblk2 V c 3 t y
      = V c main_v8_1 (ValueIdx.ix2 ⟨(400 * (t.val % 25) + (y 0).val) % 10000, Nat.mod_lt _ (by norm_num)⟩ (y 1)) := by
    blk_ext [iblk2, idx2 t]
  rw [e, h.a_h1]
  rfl

/-- A block of the third support's rows. -/
theorem s3At_real (t : Fin cfg2.N) : s3At V c t = toE (r2 (rows (mm (lay2 a s h1 b g e) w) (t.val % 25))) := by
  unfold s3At
  rw [iblk2_0 V c h, iblk2_1, iblk2_2, iblk2_3 V c h, iblk2_4, iblk2_5, iblk2_6, iblk2_7, h.a_s, h.a_d, h.a_b, h.a_g, h.a_e, h.a_w]
  exact s3Blk_real (rows a (t.val % 25)) s b g e (rows h1 (t.val % 25)) w

/-- The third support. -/
theorem S3_real : S3 V c = toE (r2 (mm (lay2 a s h1 b g e) w)) := by
  funext y
  unfold S3
  rw [s3At_real V c h]
  have hy : (y 0).val < 10000 := (y 0).isLt
  apply rows_at
  · show (y 0).val = 400 * ((y 0).val / 400 % 25) + (y 0).val % 400
    omega
  · rfl

/-- A block's column sums added to those so far. -/
theorem d3Step_real (t : Fin cfg2.N) (d : Fin 64 → ℝ) :
    d3Blk (iblk2 V c 0 t) (iblk2 V c 1 t) (iblk2 V c 2 t) (iblk2 V c 3 t) (iblk2 V c 4 t) (iblk2 V c 5 t) (iblk2 V c 6 t) (iblk2 V c 7 t) (toE (row1 d))
      = toE (row1 fun j => d j + ∑ p, rows (mm (lay2 a s h1 b g e) w) (t.val % 25) p j) := by
  rw [iblk2_0 V c h, iblk2_1, iblk2_2, iblk2_3 V c h, iblk2_4, iblk2_5, iblk2_6, iblk2_7, h.a_s, h.a_d, h.a_b, h.a_g, h.a_e, h.a_w]
  exact d3Blk_real (rows a (t.val % 25)) s b g e (rows h1 (t.val % 25)) w d

/-- The column sums of the third support's first blocks. -/
theorem d3At_real (n : ℕ) (hn : n < cfg2.N) (h25 : n < 25) :
    d3At V c n hn = toE (row1 fun j => ∑ o ∈ Finset.range (n + 1), ∑ p, rows (mm (lay2 a s h1 b g e) w) o p j) := by
  induction n with
  | zero =>
    unfold d3At
    rw [k2_pay3_real, d3Step_real V c h]
    exact toE_row1_congr fun j => by rw [Finset.sum_range_one, row1_ix2, zero_add, Nat.zero_mod]
  | succ n ih =>
    unfold d3At
    rw [ih _ (by omega), d3Step_real V c h]
    exact toE_row1_congr fun j => by rw [row1_ix2, Finset.sum_range_succ _ (n + 1), show (n + 1) % 25 = n + 1 from Nat.mod_eq_of_lt h25]

/-- A block of the result's rows. -/
theorem outAt_real (t : Fin cfg2.N) :
    outAt V c t = m2 (rows (lay3 a (mm (lay2 a s h1 b g e) w) b3) (t.val % 25)) := by
  unfold outAt
  rw [iblk2_0 V c h, iblk2_8, h.a_b3, S3_real V c h, d3At_real V c h 24 _ (by norm_num)]
  have hd : (toE (row1 fun j => ∑ o ∈ Finset.range (24 + 1), ∑ p, rows (mm (lay2 a s h1 b g e) w) o p j) : S1x64.Idx → EReal)
      = toE (row1 fun j => ∑ k, mm (lay2 a s h1 b g e) w k j) := toE_row1_congr fun j => sum_rows _ j
  rw [hd]
  exact k2_pay5_real (rows a (t.val % 25)) _ b3

/-- The result. -/
theorem arr2_9 : (dat2 V c).arrAt 9 cfg2.N
    = (m2 (lay3 a (mm (lay2 a s h1 b g e) w) b3) : S10000x64.Idx → EReal) := by
  refine (dat2 V c).arrAt_eq_of_covers 9 _ (by decide +kernel) fun t hf y => ?_
  have ht : t.val < 50 := t.isLt.trans_eq N_2
  have h25 : 25 ≤ t.val := by rw [hflush2_9 t] at hf; exact of_decide_eq_true hf
  blk_simp
  rw [after2_9, outAt_real V c h]
  apply rows_wide
  · blk_simp [idx2 t]; omega
  · blk_simp [idx2 t]

end Call2

end Cert.KernelIdeal.Hand

end
-- ==== Proof.KernVal.lean ====
/- The kernel's result within range: the network over the extended reals. -/
module

public import proofs.«01_k».proof.Proof.Vals2

@[expose] public section

set_option maxRecDepth 16384

noncomputable section

namespace Cert.KernelIdeal.Hand

open Idealize.ShloMosaic Idealize.ShloMosaic.TcCoe Idealize.ShloMosaic.ValueIdx
open Cert.KernelIdeal.Gen Cert.Reals

/-- A vector reshaped to one row. -/
theorem row_of_r1 {n : ℕ} (f : Fin n → ℝ) (h : (⟨1, ![n]⟩ : Shape).ShapeCasts ⟨2, ![1, n]⟩) :
    shapeCast (α := EReal) ⟨2, ![1, n]⟩ (toE (r1 f)) h = toE (row1 f) := by
  rw [toE_shapeCast]
  exact toE_row1_congr fun j => by rw [shapeCast_a_1a_apply]; rfl

/-- The arguments' contents on core `c` are these arrays. -/
structure Args (m : (ℓ : Loc nD τ sig) → Buf (Elt Ideal) ℓ) (c : Dev nD) (x : Fin 10000 → Fin 128 → EReal)
    (adj : Fin 10000 → Fin 10000 → EReal) (w1 : Fin 128 → Fin 128 → EReal) (b1 : Fin 128 → EReal) (g1 e1 : Fin 128 → ℝ) (w2 : Fin 128 → Fin 128 → ℝ)
    (b2 : Fin 128 → EReal) (g2 e2 : Fin 128 → ℝ) (w3 : Fin 128 → Fin 64 → ℝ) (b3 : Fin 64 → EReal) : Prop where
  a0 : m ((c : Thread nD τ).loc main_arg0) = (m2 x : S10000x128.Idx → EReal)
  a1 : m ((c : Thread nD τ).loc main_arg1) = (m2 adj : S10000x10000.Idx → EReal)
  a2 : m ((c : Thread nD τ).loc main_arg2) = (m2 w1 : S128x128.Idx → EReal)
  a3 : m ((c : Thread nD τ).loc main_arg3) = (m1 b1 : S128.Idx → EReal)
  a4 : m ((c : Thread nD τ).loc main_arg4) = (toE (r1 g1) : S128.Idx → EReal)
  a5 : m ((c : Thread nD τ).loc main_arg5) = (toE (r1 e1) : S128.Idx → EReal)
  a6 : m ((c : Thread nD τ).loc main_arg6) = (toE (r2 w2) : S128x128.Idx → EReal)
  a7 : m ((c : Thread nD τ).loc main_arg7) = (m1 b2 : S128.Idx → EReal)
  a8 : m ((c : Thread nD τ).loc main_arg8) = (toE (r1 g2) : S128.Idx → EReal)
  a9 : m ((c : Thread nD τ).loc main_arg9) = (toE (r1 e2) : S128.Idx → EReal)
  a10 : m ((c : Thread nD τ).loc main_arg10) = (toE (r2 w3) : S128x64.Idx → EReal)
  a11 : m ((c : Thread nD τ).loc main_arg11) = (m1 b3 : S64.Idx → EReal)

section Values
variable (m : (ℓ : Loc nD τ sig) → Buf (Elt Ideal) ℓ) (c : Dev nD)

/-- The host stretch's reshapes, of the vectors as launched. -/
theorem host_v0 : V1 m c main_v0 = (shapeCast S1x128 (m ((c : Thread nD τ).loc main_arg3)) shapeCasts_S128_S1x128 : S1x128.Idx → EReal) := by rfl
theorem host_v1 : V1 m c main_v1 = (shapeCast S1x128 (m ((c : Thread nD τ).loc main_arg4)) shapeCasts_S128_S1x128 : S1x128.Idx → EReal) := by rfl
theorem host_v2 : V1 m c main_v2 = (shapeCast S1x128 (m ((c : Thread nD τ).loc main_arg5)) shapeCasts_S128_S1x128 : S1x128.Idx → EReal) := by rfl
theorem host_v3 : V1 m c main_v3 = (shapeCast S1x128 (m ((c : Thread nD τ).loc main_arg7)) shapeCasts_S128_S1x128 : S1x128.Idx → EReal) := by rfl
theorem host_v4 : V1 m c main_v4 = (shapeCast S1x128 (m ((c : Thread nD τ).loc main_arg8)) shapeCasts_S128_S1x128 : S1x128.Idx → EReal) := by rfl
theorem host_v5 : V1 m c main_v5 = (shapeCast S1x128 (m ((c : Thread nD τ).loc main_arg9)) shapeCasts_S128_S1x128 : S1x128.Idx → EReal) := by rfl
theorem host_v6 : V1 m c main_v6 = (shapeCast S1x64 (m ((c : Thread nD τ).loc main_arg11)) shapeCasts_S64_S1x64 : S1x64.Idx → EReal) := by rfl

/-- What the first two calls leave of a buffer neither writes. -/
theorem V2_of (r : Ref sig .tc) (h : ∀ w : Fin cfg0.W, Pipeline.arrRef spec0 w = r → (cfg0.win w).isOut = false) : V2 m c r = V1 m c r :=
  W2_of m c r h
theorem V3_of (r : Ref sig .tc) (h : ∀ w : Fin cfg0.W, Pipeline.arrRef spec0 w = r → (cfg0.win w).isOut = false)
    (h' : ∀ w : Fin cfg1.W, Pipeline.arrRef spec1 w = r → (cfg1.win w).isOut = false) : V3 m c r = V1 m c r :=
  (W3_of m c r h').trans (W2_of m c r h)

variable {x : Fin 10000 → Fin 128 → EReal} {adj : Fin 10000 → Fin 10000 → EReal} {w1 : Fin 128 → Fin 128 → EReal} {b1 : Fin 128 → EReal}
    {g1 e1 : Fin 128 → ℝ} {w2 : Fin 128 → Fin 128 → ℝ} {b2 : Fin 128 → EReal} {g2 e2 : Fin 128 → ℝ} {w3 : Fin 128 → Fin 64 → ℝ} {b3 : Fin 64 → EReal} (A : Args m c x adj w1 b1 g1 e1 w2 b2 g2 e2 w3 b3) (hr : InRange adj (stand (mmE x w1)))
include A hr

/-- The second call is entered with the first support's codes. -/
theorem in1 : In1 (V2 m) c adj (mmE x w1) b1 g1 e1 w2 where
  adj := (W2_args m c main_arg1 (by decide)).trans A.a1
  q1 := (W2_arr m c 2).trans (arr0_2 (V1 m) c x w1 ((W1_args m c main_arg0 (by decide)).trans A.a0) ((W1_args m c main_arg2 (by decide)).trans A.a2))
  q2 := (W2_arr m c 3).trans (arr0_3 (V1 m) c x w1 ((W1_args m c main_arg0 (by decide)).trans A.a0) ((W1_args m c main_arg2 (by decide)).trans A.a2))
  s1 := (W2_arr m c 4).trans (arr0_4 (V1 m) c x w1 ((W1_args m c main_arg0 (by decide)).trans A.a0) ((W1_args m c main_arg2 (by decide)).trans A.a2))
  s2 := (W2_arr m c 5).trans (arr0_5 (V1 m) c x w1 ((W1_args m c main_arg0 (by decide)).trans A.a0) ((W1_args m c main_arg2 (by decide)).trans A.a2))
  off := (W2_arr m c 6).trans (arr0_6 (V1 m) c x w1 ((W1_args m c main_arg0 (by decide)).trans A.a0) ((W1_args m c main_arg2 (by decide)).trans A.a2))
  b := (V2_of m c main_v0 (by decide +kernel)).trans (by rw [host_v0, A.a3]; exact row_cast b1 _)
  g := (V2_of m c main_v1 (by decide +kernel)).trans (by rw [host_v1, A.a4]; exact row_of_r1 g1 _)
  e := (V2_of m c main_v2 (by decide +kernel)).trans (by rw [host_v2, A.a5]; exact row_of_r1 e1 _)
  w := (W2_args m c main_arg6 (by decide)).trans A.a6
  range := hr

/-- The third call is entered with the first layer and the second support. -/
theorem in2 : In2 (V3 m) c adj (mm (layer1 x adj w1 b1 g1 e1) w2) (layer1 x adj w1 b1 g1 e1) b2 g2 e2 w3 b3 where
  adj := (W3_arr m c 10).trans (arr1_10 (V2 m) c (in1 m c A hr))
  a_h1 := (W3_arr m c 11).trans (arr1_11 (V2 m) c (in1 m c A hr))
  a_s := (W3_arr m c 12).trans (arr1_12 (V2 m) c (in1 m c A hr))
  a_d := (W3_arr m c 13).trans (arr1_13 (V2 m) c (in1 m c A hr))
  a_b := (V3_of m c main_v3 (by decide +kernel) (by decide +kernel)).trans (by rw [host_v3, A.a7]; exact row_cast b2 _)
  a_g := (V3_of m c main_v4 (by decide +kernel) (by decide +kernel)).trans (by rw [host_v4, A.a8]; exact row_of_r1 g2 _)
  a_e := (V3_of m c main_v5 (by decide +kernel) (by decide +kernel)).trans (by rw [host_v5, A.a9]; exact row_of_r1 e2 _)
  a_w := (W3_args m c main_arg10 (by decide)).trans A.a10
  a_b3 := (V3_of m c main_v6 (by decide +kernel) (by decide +kernel)).trans (by rw [host_v6, A.a11]; exact row_cast b3 _)

/-- The result array is the network's. -/
theorem kernel_net : (dat2 (V3 m) c).arrAt 9 cfg2.N
    = (m2 (net x adj w1 b1 g1 e1 w2 b2 g2 e2 w3 b3) : S10000x64.Idx → EReal) :=
  arr2_9 (V3 m) c (in2 m c A hr)

end Values

end Cert.KernelIdeal.Hand

end
-- ==== Proof.RefOps.lean ====
/- The reference's operations on matrices of extended reals: each is the operation entry by entry, and each broadcast, reshape and
   reduction reads at the index its shapes say. -/
module

public import proofs.«01_k».proof.Proof.Math
public import Idealize.ShloMosaic.Lib.Pipeline.Value

@[expose] public section

set_option maxRecDepth 16384

noncomputable section

namespace Cert.Reals

open Idealize.ShloMosaic Idealize.ShloMosaic.ValueIdx
open scoped BigOperators

/-- A family over three indices as an array of rank three. -/
def m3 {a b c : ℕ} (f : Fin a → Fin b → Fin c → EReal) : (⟨3, ![a, b, c]⟩ : Shape).Idx → EReal := fun y => f (y 0) (y 1) (y 2)

section Pointwise
variable {a b c : ℕ}

theorem add2 (f g : Fin a → Fin b → EReal) : addf (F := Ideal) (φ := .f32) (m2 f) (m2 g) = m2 fun i j => f i j + g i j := rfl
theorem sub2 (f g : Fin a → Fin b → EReal) : subf (F := Ideal) (φ := .f32) (m2 f) (m2 g) = m2 fun i j => f i j - g i j := rfl
theorem mul2 (f g : Fin a → Fin b → EReal) : mulf (F := Ideal) (φ := .f32) (m2 f) (m2 g) = m2 fun i j => f i j * g i j := rfl
theorem max2 (f g : Fin a → Fin b → EReal) : maximumf (F := Ideal) (φ := .f32) (m2 f) (m2 g) = m2 fun i j => max (f i j) (g i j) := rfl
theorem min2 (f g : Fin a → Fin b → EReal) : minimumf (F := Ideal) (φ := .f32) (m2 f) (m2 g) = m2 fun i j => min (f i j) (g i j) := rfl
theorem div2 (f g : Fin a → Fin b → EReal) : Host.divf (F := Ideal) (φ := .f32) (m2 f) (m2 g) = m2 fun i j => Ideal.div (f i j) (g i j) := rfl
theorem abs2 (f : Fin a → Fin b → EReal) : Host.absf (F := Ideal) (φ := .f32) (m2 f) = m2 fun i j => max (f i j) (-f i j) := rfl
theorem round2 (f : Fin a → Fin b → EReal) :
    Host.roundeven (F := Ideal) (φ := .f32) (m2 f) = m2 fun i j => Ideal.liftRound Ideal.roundHalfEven (f i j) := rfl
theorem exp2 (f : Fin a → Fin b → EReal) : Host.exp (F := Ideal) (φ := .f32) (m2 f) = m2 fun i j => Ideal.exp (f i j) := rfl
theorem log2 (f : Fin a → Fin b → EReal) : Host.log (F := Ideal) (φ := .f32) (m2 f) = m2 fun i j => Ideal.log (f i j) := rfl

theorem add3 (f g : Fin a → Fin b → Fin c → EReal) : addf (F := Ideal) (φ := .f32) (m3 f) (m3 g) = m3 fun i j k => f i j k + g i j k := rfl
theorem sub3 (f g : Fin a → Fin b → Fin c → EReal) : subf (F := Ideal) (φ := .f32) (m3 f) (m3 g) = m3 fun i j k => f i j k - g i j k := rfl
theorem mul3 (f g : Fin a → Fin b → Fin c → EReal) : mulf (F := Ideal) (φ := .f32) (m3 f) (m3 g) = m3 fun i j k => f i j k * g i j k := rfl
theorem div3 (f g : Fin a → Fin b → Fin c → EReal) :
    Host.divf (F := Ideal) (φ := .f32) (m3 f) (m3 g) = m3 fun i j k => Ideal.div (f i j k) (g i j k) := rfl
theorem sqrt3 (f : Fin a → Fin b → Fin c → EReal) : Host.sqrt (F := Ideal) (φ := .f32) (m3 f) = m3 fun i j k => Ideal.sqrt (f i j k) := rfl

/-- The product of two real matrices, over the extended reals. -/
theorem mmE_up (f : Fin a → Fin b → ℝ) (g : Fin b → Fin c → ℝ) : mmE (up f) (up g) = up (mm f g) := by
  funext i j
  show (∑ k, (f i k : EReal) * (g k j : EReal)) = ((∑ k, f i k * g k j : ℝ) : EReal)
  rw [coe_sum]
  exact Finset.sum_congr rfl fun k _ => (EReal.coe_mul _ _).symm

end Pointwise

/-! ## Broadcasts -/

/-- A broadcast reads its operand at the index its axes say. -/
theorem bcast_at {s t : Shape} (d : Fin s.rank → Fin t.rank) (h : s.BroadcastsInDim t d) (f : s.Idx → EReal) (p : t.Idx → s.Idx)
    (hp : ∀ i a, (p i a).val = if s.size a = 1 then 0 else (i (d a)).val) :
    broadcastInDim (α := EReal) t d h f = fun i => f (p i) :=
  funext fun i => broadcastInDim_apply d h f i (p i) (hp i)

section Broadcast
variable {a b c : ℕ}

theorem bc_0_2 (r : ℝ) (d : Fin (⟨0, ![]⟩ : Shape).rank → Fin (⟨2, ![a, b]⟩ : Shape).rank) (h : (⟨0, ![]⟩ : Shape).BroadcastsInDim ⟨2, ![a, b]⟩ d) :
    broadcastInDim (s := ⟨0, ![]⟩) (α := EReal) ⟨2, ![a, b]⟩ d h (toE fun _ => r) = m2 fun _ _ => (r : EReal) := rfl
theorem bc_0_3 (r : ℝ) (d : Fin (⟨0, ![]⟩ : Shape).rank → Fin (⟨3, ![a, b, c]⟩ : Shape).rank) (h : (⟨0, ![]⟩ : Shape).BroadcastsInDim ⟨3, ![a, b, c]⟩ d) :
    broadcastInDim (s := ⟨0, ![]⟩) (α := EReal) ⟨3, ![a, b, c]⟩ d h (toE fun _ => r) = m3 fun _ _ _ => (r : EReal) := rfl

/-- A vector to one row. -/
theorem bc_vec_row (f : Fin b → EReal) (h : (⟨1, ![b]⟩ : Shape).BroadcastsInDim ⟨2, ![1, b]⟩ ![1]) :
    broadcastInDim (α := EReal) ⟨2, ![1, b]⟩ ![1] h (m1 f) = m2 fun _ j => f j := by
  refine bcast_at _ h (m1 f) (fun i => ix1 (i 1)) fun i a => ?_
  match a with
  | ⟨0, _⟩ =>
    show (i 1).val = if b = 1 then 0 else (i 1).val
    have : (i 1).val < b := (i 1).isLt
    split_ifs <;> omega

/-- One row to every row. -/
theorem bc_row (f : Fin 1 → Fin b → EReal) (h : (⟨2, ![1, b]⟩ : Shape).BroadcastsInDim ⟨2, ![a, b]⟩ ![0, 1]) :
    broadcastInDim (α := EReal) ⟨2, ![a, b]⟩ ![0, 1] h (m2 f) = m2 fun _ j => f 0 j := by
  refine bcast_at _ h (m2 f) (fun i => ix2 0 (i 1)) fun i d => ?_
  match d with
  | ⟨0, _⟩ => rfl
  | ⟨1, _⟩ =>
    show (i 1).val = if b = 1 then 0 else (i 1).val
    have : (i 1).val < b := (i 1).isLt
    split_ifs <;> omega

/-- A vector to one column. -/
theorem bc_vec_col (f : Fin a → EReal) (h : (⟨1, ![a]⟩ : Shape).BroadcastsInDim ⟨2, ![a, 1]⟩ ![0]) :
    broadcastInDim (α := EReal) ⟨2, ![a, 1]⟩ ![0] h (m1 f) = m2 fun i _ => f i := by
  refine bcast_at _ h (m1 f) (fun i => ix1 (i 0)) fun i d => ?_
  match d with
  | ⟨0, _⟩ =>
    show (i 0).val = if a = 1 then 0 else (i 0).val
    have : (i 0).val < a := (i 0).isLt
    split_ifs <;> omega

/-- One column to every column. -/
theorem bc_col (f : Fin a → Fin 1 → EReal) (h : (⟨2, ![a, 1]⟩ : Shape).BroadcastsInDim ⟨2, ![a, b]⟩ ![0, 1]) :
    broadcastInDim (α := EReal) ⟨2, ![a, b]⟩ ![0, 1] h (m2 f) = m2 fun i _ => f i 0 := by
  refine bcast_at _ h (m2 f) (fun i => ix2 (i 0) 0) fun i d => ?_
  match d with
  | ⟨0, _⟩ =>
    show (i 0).val = if a = 1 then 0 else (i 0).val
    have : (i 0).val < a := (i 0).isLt
    split_ifs <;> omega
  | ⟨1, _⟩ => rfl

/-- A matrix with a last axis of one. -/
theorem bc_keep (f : Fin a → Fin b → EReal) (h : (⟨2, ![a, b]⟩ : Shape).BroadcastsInDim ⟨3, ![a, b, 1]⟩ ![0, 1]) :
    broadcastInDim (α := EReal) ⟨3, ![a, b, 1]⟩ ![0, 1] h (m2 f) = m3 fun i j _ => f i j := by
  refine bcast_at _ h (m2 f) (fun i => ix2 (i 0) (i 1)) fun i d => ?_
  match d with
  | ⟨0, _⟩ =>
    show (i 0).val = if a = 1 then 0 else (i 0).val
    have : (i 0).val < a := (i 0).isLt
    split_ifs <;> omega
  | ⟨1, _⟩ =>
    show (i 1).val = if b = 1 then 0 else (i 1).val
    have : (i 1).val < b := (i 1).isLt
    split_ifs <;> omega

/-- The last axis of one repeated. -/
theorem bc_last (f : Fin a → Fin b → Fin 1 → EReal) (h : (⟨3, ![a, b, 1]⟩ : Shape).BroadcastsInDim ⟨3, ![a, b, c]⟩ ![0, 1, 2]) :
    broadcastInDim (α := EReal) ⟨3, ![a, b, c]⟩ ![0, 1, 2] h (m3 f) = m3 fun i j _ => f i j 0 := by
  refine bcast_at _ h (m3 f) (fun i => ix3 (i 0) (i 1) 0) fun i d => ?_
  match d with
  | ⟨0, _⟩ =>
    show (i 0).val = if a = 1 then 0 else (i 0).val
    have : (i 0).val < a := (i 0).isLt
    split_ifs <;> omega
  | ⟨1, _⟩ =>
    show (i 1).val = if b = 1 then 0 else (i 1).val
    have : (i 1).val < b := (i 1).isLt
    split_ifs <;> omega
  | ⟨2, _⟩ => rfl

end Broadcast

/-! ## The reshape to groups of four and back -/

/-- Column of group `g`, member `e`. -/
def col (g : Fin 32) (e : Fin 4) : Fin 128 := ⟨4 * g.val + e.val, by omega⟩
/-- A column's group and its place there. -/
def gOf (j : Fin 128) : Fin 32 := ⟨j.val / 4, by omega⟩
def eOf (j : Fin 128) : Fin 4 := ⟨j.val % 4, by omega⟩

theorem col_of (j : Fin 128) : col (gOf j) (eOf j) = j := by
  apply Fin.ext; show 4 * (j.val / 4) + j.val % 4 = j.val; omega
theorem grp_col (g : Fin 32) (e e' : Fin 4) : grp (col g e) e' = col g e' := by
  apply Fin.ext; show 4 * ((4 * g.val + e.val) / 4) + e'.val = 4 * g.val + e'.val; omega

theorem cast_groups {n : ℕ} (f : Fin n → Fin 128 → EReal) (h : (⟨2, ![n, 128]⟩ : Shape).ShapeCasts ⟨3, ![n, 32, 4]⟩) :
    shapeCast (α := EReal) ⟨3, ![n, 32, 4]⟩ (m2 f) h = m3 fun i g e => f i (col g e) := by
  funext y
  refine shapeCast_apply (m2 f) h y (ix2 (y 0) (col (y 1) (y 2))) ?_
  rw [Shape.rowMajor_val_two, Shape.rowMajor_val_three]
  show (y 0).val * 128 + (4 * (y 1).val + (y 2).val) = ((y 0).val * 32 + (y 1).val) * 4 + (y 2).val
  omega

theorem cast_flat {n : ℕ} (f : Fin n → Fin 32 → Fin 4 → EReal) (h : (⟨3, ![n, 32, 4]⟩ : Shape).ShapeCasts ⟨2, ![n, 128]⟩) :
    shapeCast (α := EReal) ⟨2, ![n, 128]⟩ (m3 f) h = m2 fun i j => f i (gOf j) (eOf j) := by
  funext y
  refine shapeCast_apply (m3 f) h y (ix3 (y 0) (gOf (y 1)) (eOf (y 1))) ?_
  rw [Shape.rowMajor_val_two, Shape.rowMajor_val_three]
  show ((y 0).val * 32 + (y 1).val / 4) * 4 + (y 1).val % 4 = (y 0).val * 128 + (y 1).val
  omega

/-! ## Reductions -/

section Reduction
variable {l m n : ℕ} {u : Shape} (hu : 0 < u.numel)

theorem sum_last (q : Fin l → Fin m → Fin n → EReal) (h' : (⟨3, ![l, m, n]⟩ : Shape).ReducesTo [2] ⟨2, ![l, m]⟩)
    (h : (⟨3, ![l, m, n]⟩ : Shape).Reduces [2] ⟨2, ![l, m]⟩) :
    Host.reduceAdd (F := Ideal) (φ := .f32) (m3 q) (toE fun _ : u.Idx => (0 : ℝ)) h' hu = m2 fun i g => ∑ k, q i g k := by
  refine m2_congr fun i g => ?_
  rw [hostReduceAdd_apply, Ideal.hostReduceAdd_single h' h, toE_apply, EReal.coe_zero, zero_add]
  exact Finset.sum_congr rfl fun k _ => by rw [lift_last]; rfl

theorem sum_row (q : Fin m → Fin n → EReal) (h' : (⟨2, ![m, n]⟩ : Shape).ReducesTo [1] ⟨1, ![m]⟩)
    (h : (⟨2, ![m, n]⟩ : Shape).Reduces [1] ⟨1, ![m]⟩) :
    Host.reduceAdd (F := Ideal) (φ := .f32) (m2 q) (toE fun _ : u.Idx => (0 : ℝ)) h' hu = m1 fun i => ∑ k, q i k := by
  refine m1_congr fun i => ?_
  rw [hostReduceAdd_apply, Ideal.hostReduceAdd_single h' h, toE_apply, EReal.coe_zero, zero_add]
  exact Finset.sum_congr rfl fun k _ => by rw [lift_row]; rfl

/-- The largest along one axis. -/
theorem host_max {s t : Shape} {a : Fin s.rank} (f : s.Idx → EReal) (h' : s.ReducesTo [a] t) (h : s.Reduces [a] t) (j : t.Idx) :
    Host.reduce (FloatOps.maximumf (F := Ideal) (φ := .f32)) f (constant (F := Ideal) u .f32 0xFF800000#32) h' hu j
      = (Finset.univ : Finset (Fin (s.size a))).fold max (⊥ : EReal) fun k => f (h.lift j k) := by
  refine (Host.reduce_eq_fold_single (max : EReal → EReal → EReal) _ _ h' h hu j).trans ?_
  show Finset.fold max (FloatOps.ofBits (F := Ideal) .f32 0xFF800000#32) _ _ = _
  rw [ofBits_neg_inf]
  rfl

theorem max_row (q : Fin m → Fin n → EReal) (h' : (⟨2, ![m, n]⟩ : Shape).ReducesTo [1] ⟨1, ![m]⟩)
    (h : (⟨2, ![m, n]⟩ : Shape).Reduces [1] ⟨1, ![m]⟩) :
    Host.reduce (FloatOps.maximumf (F := Ideal) (φ := .f32)) (m2 q) (constant (F := Ideal) u .f32 0xFF800000#32) h' hu
      = m1 fun i => top (q i) :=
  m1_congr fun i => (host_max hu (m2 q) h' h _).trans
    (congrArg (fun p : Fin n → EReal => Finset.univ.fold max ⊥ p) (funext fun k => by rw [lift_row]; rfl))

theorem max_col (q : Fin m → Fin n → EReal) (h' : (⟨2, ![m, n]⟩ : Shape).ReducesTo [0] ⟨1, ![n]⟩)
    (h : (⟨2, ![m, n]⟩ : Shape).Reduces [0] ⟨1, ![n]⟩) :
    Host.reduce (FloatOps.maximumf (F := Ideal) (φ := .f32)) (m2 q) (constant (F := Ideal) u .f32 0xFF800000#32) h' hu
      = m1 fun j => top fun i => q i j :=
  m1_congr fun j => (host_max hu (m2 q) h' h _).trans
    (congrArg (fun p : Fin m → EReal => Finset.univ.fold max ⊥ p) (funext fun k => by rw [lift_col]; rfl))

end Reduction

/-- A matrix product. -/
theorem dot2 {M K N : ℕ} (d : DotDims ⟨2, ![M, K]⟩ ⟨2, ![K, N]⟩ ⟨2, ![M, N]⟩) (hd : d = DotDims.plain M K N)
    (f : Fin M → Fin K → EReal) (g : Fin K → Fin N → EReal) :
    Host.dotGeneral (F := Ideal) (φ₁ := .f32) (φ₂ := .f32) d none (m2 f) (m2 g) = m2 (mmE f g) :=
  dotGeneral_wide d hd none f g

/-! ## The variance's divisor -/

/-- The variance's divisor: four less the zero given as a word. -/
theorem four_sub {s : Shape} : subf (F := Ideal) (φ := .f32) (toE fun _ : s.Idx => (4 : ℝ)) (sitofp (F := Ideal) .f32 (constantI s 32 0#32)) = toE fun _ => (4 : ℝ) := by
  funext i
  show ((4 : ℝ) : EReal) - (((0#32 : BitVec 32).toInt : ℝ) : EReal) = ((4 : ℝ) : EReal)
  rw [← EReal.coe_sub]; norm_num

/-- It is above zero. -/
theorem four_pos {s : Shape} : cmpf (F := Ideal) (φ := .f32) .ogt (toE fun _ : s.Idx => (4 : ℝ)) (toE fun _ => (0 : ℝ)) = fun _ => 1#1 := by
  funext i
  show Ideal.cmp .ogt ((4 : ℝ) : EReal) ((0 : ℝ) : EReal) = 1#1
  have h : ((0 : ℝ) : EReal) < ((4 : ℝ) : EReal) := EReal.coe_lt_coe_iff.mpr (by norm_num)
  simp [Ideal.cmp, h]

end Cert.Reals

end
-- ==== Proof.RefVal.lean ====
/- The reference's result: the network over the extended reals. -/
module

public import proofs.«01_k».proof.Proof.RefOps
public import proofs.«01_k».proof.Proof.Gen.ReferenceIdeal.Read

@[expose] public section

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read Cert.Reals

/-! ## The normalisation over groups of four -/

/-- The groups' means, a last axis of one. -/
def gMean (y : FVec Ideal S10000x32x4 .f32) : FVec Ideal S10000x32x1 .f32 :=
  Host.divf (broadcastInDim S10000x32x1 ![0, 1] bcast_S10000x32_S10000x32x1_0_1
      (Host.reduceAdd y (constant S_ .f32 0x00000000#32) reducesTo_S10000x32x4_S10000x32_d2 h_S_))
    (broadcastInDim S10000x32x1 ![] bcast_S_S10000x32x1 (constant S_ .f32 0x40800000#32))

/-- The distances from the groups' means. -/
def gDist (y : FVec Ideal S10000x32x4 .f32) : FVec Ideal S10000x32x4 .f32 :=
  subf y (broadcastInDim S10000x32x4 ![0, 1, 2] bcast_S10000x32x1_S10000x32x4_0_1_2 (gMean y))

/-- The variance's divisor. -/
def gDiv : FVec Ideal S_ .f32 := subf (constant S_ .f32 0x40800000#32) (sitofp .f32 (constantI S_ 32 0#32))

/-- The groups' variances, a last axis of one. -/
def gVar (d : FVec Ideal S10000x32x4 .f32) : FVec Ideal S10000x32x1 .f32 :=
  select (broadcastInDim S10000x32x1 ![] bcast_S_S10000x32x1 (cmpf .ogt gDiv (constant S_ .f32 0x00000000#32)))
    (Host.divf (broadcastInDim S10000x32x1 ![0, 1] bcast_S10000x32_S10000x32x1_0_1
        (Host.reduceAdd (mulf d d) (constant S_ .f32 0x00000000#32) reducesTo_S10000x32x4_S10000x32_d2 h_S_))
      (broadcastInDim S10000x32x1 ![] bcast_S_S10000x32x1 gDiv))
    (broadcastInDim S10000x32x1 ![] bcast_S_S10000x32x1 (id (constant S_ .f32 0x7FC00000#32)))

/-- The distances over the roots of the variances. -/
def gQuot (d : FVec Ideal S10000x32x4 .f32) : FVec Ideal S10000x32x4 .f32 :=
  Host.divf d (broadcastInDim S10000x32x4 ![0, 1, 2] bcast_S10000x32x1_S10000x32x4_0_1_2
    (Host.sqrt (addf (gVar d) (broadcastInDim S10000x32x1 ![] bcast_S_S10000x32x1 (constant S_ .f32 0x3727C5AC#32)))))

/-- The normalisation the reference computes twice. -/
def gNorm (f : FVec Ideal S10000x128 .f32) (g b : FVec Ideal S128 .f32) : FVec Ideal S10000x128 .f32 :=
  addf (mulf (shapeCast S10000x128 (gQuot (gDist (shapeCast S10000x32x4 f shapeCasts_S10000x128_S10000x32x4))) shapeCasts_S10000x32x4_S10000x128)
      (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 b))

theorem val57_eq (x0 : FVec Ideal S10000x128 .f32) (x1 : FVec Ideal S10000x10000 .f32) (x2 : FVec Ideal S128x128 .f32) (x3 x4 x5 : FVec Ideal S128 .f32) :
    val_main_v57 (F := Ideal) x0 x1 x2 x3 x4 x5 = gNorm (val_main_v37 (F := Ideal) x0 x1 x2 x3) x4 x5 := rfl

theorem val82_eq (x0 : FVec Ideal S10000x128 .f32) (x1 : FVec Ideal S10000x10000 .f32) (x2 : FVec Ideal S128x128 .f32) (x3 x4 x5 : FVec Ideal S128 .f32)
    (x6 : FVec Ideal S128x128 .f32) (x7 x8 x9 : FVec Ideal S128 .f32) :
    val_main_v82 (F := Ideal) x0 x1 x2 x3 x4 x5 x6 x7 x8 x9 = gNorm (val_main_v62 (F := Ideal) x0 x1 x2 x3 x4 x5 x6 x7) x8 x9 := rfl

theorem red3 : S10000x32x4.Reduces [2] S10000x32 := by decide
theorem redR : S10000x64.Reduces [1] S10000 := by decide
theorem redC : S10000x128.Reduces [0] S128 := by decide

/-- The mean of a group, at one of its columns. -/
theorem meanE_col (f : Fin 128 → EReal) (g : Fin 32) (e : Fin 4) : meanE f (col g e) = (∑ k, f (col g k)) * ((1 / 4 : ℝ) : EReal) := by
  unfold meanE; simp only [grp_col]

/-- Sums over groups divided by four are the groups' means. -/
theorem mean_of_sum (f : Fin 10000 → Fin 128 → EReal) :
    Host.divf (F := Ideal) (φ := .f32) (m3 fun (i : Fin 10000) (g : Fin 32) (_ : Fin 1) => ∑ k, f i (col g k)) (m3 fun _ _ _ => ((4 : ℝ) : EReal))
      = m3 fun i g _ => meanE (f i) (col g 0) := by
  rw [div3]
  simp only [meanE_col]
  exact congrArg m3 (funext fun i => funext fun g => funext fun _ => Ideal.div_coe (by norm_num) _)

theorem gMean_real (f : Fin 10000 → Fin 128 → EReal) :
    gMean (m3 fun i g e => f i (col g e)) = m3 fun i g _ => meanE (f i) (col g 0) := by
  unfold gMean
  rw [toE_constant _ _ word_0, toE_constant _ _ word_4, sum_last _ _ _ red3, bc_keep]
  exact mean_of_sum f

theorem gDist_real (f : Fin 10000 → Fin 128 → EReal) :
    gDist (m3 fun i g e => f i (col g e)) = m3 fun i g e => dist (f i) (col g e) := by
  unfold gDist
  rw [gMean_real, bc_last, sub3]
  simp only [Reals.dist, meanE_col]

theorem gDiv_real : gDiv = toE fun _ => (4 : ℝ) := by
  unfold gDiv
  rw [toE_constant _ _ word_4]
  exact four_sub

theorem gVar_real (f : Fin 10000 → Fin 128 → EReal) :
    gVar (m3 fun i g e => dist (f i) (col g e)) = m3 fun i g _ => varE (f i) (col g 0) := by
  unfold gVar
  rw [gDiv_real, toE_constant _ _ word_0, four_pos, mul3, sum_last _ _ _ red3, bc_keep]
  exact mean_of_sum fun i j => dist (f i) j * dist (f i) j

theorem varE_col (f : Fin 128 → EReal) (g : Fin 32) (e : Fin 4) : varE f (col g 0) = varE f (col g e) := by
  unfold varE; rw [meanE_col, meanE_col]

theorem gQuot_real (f : Fin 10000 → Fin 128 → EReal) :
    gQuot (m3 fun i g e => dist (f i) (col g e)) = m3 fun i g e => (quot (f i) (col g e) : EReal) := by
  unfold gQuot
  rw [gVar_real, toE_constant _ _ word_eps, bc_0_3, add3, sqrt3, bc_last, div3]
  refine congrArg m3 (funext fun i => funext fun g => funext fun e => ?_)
  rw [varE_col _ g e, quot_div]

/-- The normalisation: its values are real. -/
theorem gNorm_real (f : Fin 10000 → Fin 128 → EReal) (g b : Fin 128 → ℝ) :
    gNorm (m2 f) (m1 fun j => (g j : EReal)) (m1 fun j => (b j : EReal)) = m2 (up (gnorm f g b)) := by
  unfold gNorm
  rw [cast_groups, gDist_real, gQuot_real, cast_flat, bc_vec_row, bc_row, bc_vec_row, bc_row, mul2, add2]
  refine congrArg m2 (funext fun i => funext fun j => ?_)
  rw [col_of, ← EReal.coe_mul, ← EReal.coe_add]
  rfl

/-! ## The quantised first layer -/

/-- A rounded number between -128 and 127, held there. -/
theorem clip_coe {r : ℝ} (h : min 127 (max (-128) r) = r) :
    min ((127 : ℝ) : EReal) (max ((-128 : ℝ) : EReal) (r : EReal)) = (r : EReal) := by
  rw [← coe_max, ← coe_min, h]

section Quantiser
variable (x0 : FVec Ideal S10000x128 .f32) (x2 : FVec Ideal S128x128 .f32) (s : Fin 10000 → Fin 128 → EReal)
  (hs : val_main_v6 (F := Ideal) x0 x2 = (m2 s : S10000x128.Idx → EReal))
include hs

/-- The columns' scales. -/
theorem v13_real : val_main_v13 (F := Ideal) x0 x2 = (m2 fun _ j => scaleE s j : S1x128.Idx → EReal) := by
  unfold val_main_v13 val_main_v11 val_main_v9 val_main_v8 val_main_v7 val_main_v10 val_main_v12 val_main_cst_3 val_main_cst_4 val_main_cst_5
  rw [hs, abs2, max_col _ _ _ redC, bc_vec_row, toE_constant _ _ word_tiny, toE_constant _ _ word_127, bc_0_2, bc_0_2, max2, div2]
  exact congrArg m2 (funext fun _ => funext fun j => scaleE_eq s (by norm_num) j)

/-- The first codes. -/
theorem v17_real : val_main_v17 (F := Ideal) x0 x2 = (m2 (up fun i j => (code1 (stand s) i j : ℝ)) : S10000x128.Idx → EReal) := by
  unfold val_main_v17 val_main_call3_v2 val_main_call3_v4 val_main_call3_v3 val_main_call3_v1 val_main_call3_v0 val_main_v16 val_main_v15 val_main_v14
    val_main_cst_6 val_main_cst_7
  rw [v13_real x0 x2 s hs, hs, id, id, bc_row, div2, round2, toE_constant _ _ word_neg128, toE_constant _ _ word_127, bc_0_2, bc_0_2, max2, min2]
  refine congrArg m2 (funext fun i => funext fun j => ?_)
  rw [code1_div]
  exact clip_coe (clip_code1 (stand s) i j)

/-- The second codes' scales. -/
theorem v19_real : val_main_v19 (F := Ideal) x0 x2 = (m2 fun _ j => Ideal.div (scaleE s j) ((254 : ℝ) : EReal) : S1x128.Idx → EReal) := by
  unfold val_main_v19 val_main_v18 val_main_cst_8
  rw [v13_real x0 x2 s hs, toE_constant _ _ word_254, bc_0_2]
  exact div2 _ _

/-- The second codes. -/
theorem v26_real : val_main_v26 (F := Ideal) x0 x2 = (m2 (up fun i j => (code2 (stand s) i j : ℝ)) : S10000x128.Idx → EReal) := by
  unfold val_main_v26 val_main_call5_v2 val_main_call5_v4 val_main_call5_v3 val_main_call5_v1 val_main_call5_v0 val_main_v25 val_main_v24 val_main_v23
    val_main_v22 val_main_v21 val_main_v20 val_main_cst_9 val_main_cst_10
  rw [v17_real x0 x2 s hs, v19_real x0 x2 s hs, v13_real x0 x2 s hs, hs, id, id, bc_row, bc_row, mul2, sub2,
    div2, round2, toE_constant _ _ word_neg128, toE_constant _ _ word_127, bc_0_2, bc_0_2, max2, min2]
  refine congrArg m2 (funext fun i => funext fun j => ?_)
  rw [code2_div]
  exact clip_coe (clip_code2 (stand s) i j)

/-- The quantised support. -/
theorem v31_real : val_main_v31 (F := Ideal) x0 x2 = (m2 (up (support (stand s))) : S10000x128.Idx → EReal) := by
  unfold val_main_v31 val_main_v30 val_main_v29 val_main_v28 val_main_v27
  rw [v17_real x0 x2 s hs, v19_real x0 x2 s hs, v13_real x0 x2 s hs, v26_real x0 x2 s hs, bc_row, bc_row, mul2, mul2, add2]
  exact congrArg m2 (funext fun i => funext fun j => support_eq s i j)

end Quantiser

/-- The adjacency's clipped multiples of 1/255: its code and 128. -/
theorem v3_real (a : Fin 10000 → Fin 10000 → EReal) :
    val_main_v3 (F := Ideal) (m2 a) = (m2 (up fun i k => (acode a i k : ℝ) + 128) : S10000x10000.Idx → EReal) := by
  unfold val_main_v3 val_main_call1_v4 val_main_call1_v3 val_main_call1_v2 val_main_call1_v1 val_main_call1_v0 val_main_v2 val_main_v1
    val_main_v0 val_main_cst val_main_cst_0 val_main_cst_1
  rw [id, id, toE_constant _ _ word_255, toE_constant _ _ word_0, bc_0_2, bc_0_2, mul2, round2, max2, min2]
  exact congrArg m2 (funext fun i => funext fun k => acode_add a i k)

/-- The quantised adjacency. -/
theorem v5_real (a : Fin 10000 → Fin 10000 → EReal) :
    val_main_v5 (F := Ideal) (m2 a) = (m2 (up fun i k => ((acode a i k : ℝ) + 128) / 255) : S10000x10000.Idx → EReal) := by
  unfold val_main_v5 val_main_v4 val_main_cst_2
  rw [v3_real, toE_constant _ _ word_255, bc_0_2, div2]
  exact congrArg m2 (funext fun i => funext fun k => div_real _ _ (by norm_num))

/-! ## The whole reference -/

section Net
variable (x : Fin 10000 → Fin 128 → EReal) (adj : Fin 10000 → Fin 10000 → EReal) (w1 : Fin 128 → Fin 128 → EReal) (b1 : Fin 128 → EReal)
  (g1 e1 : Fin 128 → ℝ) (w2 : Fin 128 → Fin 128 → ℝ) (b2 : Fin 128 → EReal) (g2 e2 : Fin 128 → ℝ) (w3 : Fin 128 → Fin 64 → ℝ) (b3 : Fin 64 → EReal)

theorem v6_real : val_main_v6 (F := Ideal) (m2 x) (m2 w1) = (m2 (mmE x w1) : S10000x128.Idx → EReal) := dot2 _ rfl _ _

theorem v37_real : val_main_v37 (F := Ideal) (m2 x) (m2 adj) (m2 w1) (m1 b1)
    = (m2 fun i j => max (addRow (up (agg1 adj (stand (mmE x w1)))) b1 i j) 0 : S10000x128.Idx → EReal) := by
  unfold val_main_v37 val_main_v36 val_main_v35 val_main_v34 val_main_v33 val_main_v32 val_main_cst_11
  rw [v5_real, v31_real _ _ _ (v6_real x w1), dot2 dot_S10000x10000_S10000x128_S10000x128_1_0_0_1_n_n rfl, mmE_up, bc_vec_row, bc_row, add2,
    toE_constant _ _ word_0, bc_0_2, max2]
  rfl

/-- The first layer. -/
theorem v57_real : val_main_v57 (F := Ideal) (m2 x) (m2 adj) (m2 w1) (m1 b1) (m1 fun j => (g1 j : EReal)) (m1 fun j => (e1 j : EReal))
    = (m2 (up (layer1 x adj w1 b1 g1 e1)) : S10000x128.Idx → EReal) := by
  rw [val57_eq, v37_real, gNorm_real]; rfl

/-- The second layer. -/
theorem v83_real : val_main_v83 (F := Ideal) (m2 x) (m2 adj) (m2 w1) (m1 b1) (m1 fun j => (g1 j : EReal)) (m1 fun j => (e1 j : EReal)) (m2 (up w2))
      (m1 b2) (m1 fun j => (g2 j : EReal)) (m1 fun j => (e2 j : EReal))
    = (m2 (up (layer2 adj w2 b2 g2 e2 (layer1 x adj w1 b1 g1 e1))) : S10000x128.Idx → EReal) := by
  unfold val_main_v83
  rw [val82_eq]
  unfold val_main_v62 val_main_v61 val_main_v60 val_main_v59 val_main_v58
  rw [v57_real, dot2 dot_S10000x128_S128x128_S10000x128_1_0_0_1_n_n rfl, mmE_up, dot2 dot_S10000x10000_S10000x128_S10000x128_1_0_0_1_n_n rfl,
    bc_vec_row, bc_row, add2]
  refine (congrArg (fun z => addf (F := Ideal) (φ := .f32) z _)
    (gNorm_real (addRow (mmE adj (up (mm (layer1 x adj w1 b1 g1 e1) w2))) b2) g2 e2)).trans ?_
  rw [add2]; rfl

/-- The logarithm of the softmax the reference computes. -/
def lsmExpr (l : FVec Ideal S10000x64 .f32) : FVec Ideal S10000x64 .f32 :=
  have d : FVec Ideal S10000x64 .f32 := subf l (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf l (constant S_ .f32 0xFF800000#32) reducesTo_S10000x64_S10000_d1 h_S_))))
  subf d (broadcastInDim S10000x64 ![0, 1] bcast_S10000x1_S10000x64_0_1 (Host.log (broadcastInDim S10000x1 ![0] bcast_S10000_S10000x1_0
    (Host.reduceAdd (Host.exp d) (constant S_ .f32 0x00000000#32) reducesTo_S10000x64_S10000_d1 h_S_))))

theorem val89_eq (x0 : FVec Ideal S10000x128 .f32) (x1 : FVec Ideal S10000x10000 .f32) (x2 : FVec Ideal S128x128 .f32) (x3 x4 x5 : FVec Ideal S128 .f32)
    (x6 : FVec Ideal S128x128 .f32) (x7 x8 x9 : FVec Ideal S128 .f32) (x10 : FVec Ideal S128x64 .f32) (x11 : FVec Ideal S64 .f32) :
    val_main_v89 (F := Ideal) x0 x1 x2 x3 x4 x5 x6 x7 x8 x9 x10 x11 = lsmExpr (val_main_v88 (F := Ideal) x0 x1 x2 x3 x4 x5 x6 x7 x8 x9 x10 x11) := rfl

/-- A maximum with the least extended real. -/
theorem max_neg_inf (y : FVec Ideal S10000 .f32) :
    maximumf (broadcastInDim S10000 ![] bcast_S_S10000 (constant (F := Ideal) S_ .f32 0xFF800000#32)) y = y := by
  funext i
  show max (FloatOps.ofBits (F := Ideal) .f32 0xFF800000#32) (y i) = y i
  rw [ofBits_neg_inf]; exact max_bot_left (y i)

theorem lsmExpr_real (l : Fin 10000 → Fin 64 → EReal) : lsmExpr (m2 l) = m2 (lsm l) := by
  unfold lsmExpr
  rw [max_neg_inf, max_row _ _ _ redR, bc_vec_col, bc_col, sub2, toE_constant _ _ word_0]
  dsimp only
  rw [exp2, sum_row _ _ _ redR, bc_vec_col, log2, bc_col, sub2]
  rfl

/-- The reference's result is the network's. -/
theorem reference_net : val_main_v89 (F := Ideal) (m2 x) (m2 adj) (m2 w1) (m1 b1) (m1 fun j => (g1 j : EReal)) (m1 fun j => (e1 j : EReal)) (m2 (up w2))
      (m1 b2) (m1 fun j => (g2 j : EReal)) (m1 fun j => (e2 j : EReal)) (m2 (up w3)) (m1 b3)
    = (m2 (net x adj w1 b1 g1 e1 w2 b2 g2 e2 w3 b3) : S10000x64.Idx → EReal) := by
  rw [val89_eq]
  unfold val_main_v88 val_main_v87 val_main_v86 val_main_v85 val_main_v84
  rw [v83_real, dot2 dot_S10000x128_S128x64_S10000x64_1_0_0_1_n_n rfl, mmE_up, dot2 dot_S10000x10000_S10000x64_S10000x64_1_0_0_1_n_n rfl,
    bc_vec_row, bc_row, add2]
  exact lsmExpr_real _

end Net

/-- The reference's result at arguments of which the scales, shifts and later weights are real. -/
theorem reference_args (y0 : FVec Ideal S10000x128 .f32) (y1 : FVec Ideal S10000x10000 .f32) (y2 : FVec Ideal S128x128 .f32) (y3 y4 y5 : FVec Ideal S128 .f32)
    (y6 : FVec Ideal S128x128 .f32) (y7 y8 y9 : FVec Ideal S128 .f32) (y10 : FVec Ideal S128x64 .f32) (y11 : FVec Ideal S64 .f32)
    (x : Fin 10000 → Fin 128 → EReal) (adj : Fin 10000 → Fin 10000 → EReal) (w1 : Fin 128 → Fin 128 → EReal) (b1 : Fin 128 → EReal)
    (g1 e1 : Fin 128 → ℝ) (w2 : Fin 128 → Fin 128 → ℝ) (b2 : Fin 128 → EReal) (g2 e2 : Fin 128 → ℝ) (w3 : Fin 128 → Fin 64 → ℝ) (b3 : Fin 64 → EReal)
    (h0 : y0 = m2 x) (h1 : y1 = m2 adj) (h2 : y2 = m2 w1) (h3 : y3 = m1 b1) (h4 : y4 = toE (r1 g1)) (h5 : y5 = toE (r1 e1))
    (h6 : y6 = toE (r2 w2)) (h7 : y7 = m1 b2) (h8 : y8 = toE (r1 g2)) (h9 : y9 = toE (r1 e2)) (h10 : y10 = toE (r2 w3)) (h11 : y11 = m1 b3) :
    Cert.ReferenceIdeal.Read.val_main_v89 (F := Ideal) y0 y1 y2 y3 y4 y5 y6 y7 y8 y9 y10 y11
      = (m2 (net x adj w1 b1 g1 e1 w2 b2 g2 e2 w3 b3) : S10000x64.Idx → EReal) := by
  subst h0 h1 h2 h3 h4 h5 h6 h7 h8 h9 h10 h11
  exact reference_net x adj w1 b1 g1 e1 w2 b2 g2 e2 w3 b3

end Cert.ReferenceIdeal.Hand

end
-- ==== Proof.PreVal.lean ====
/- What the precondition gives: the scales, shifts and later weights are arrays of reals, and the products of codes are within the exact bound. -/
module

public import proofs.«01_k».proof.Pre_exact_range
public import proofs.«01_k».proof.Proof.RefVal
public import proofs.«01_k».proof.Proof.Kern1
public import Idealize.ShloMosaic.Lib.ReduceAll

@[expose] public section

set_option maxRecDepth 16384

noncomputable section

namespace Cert.Pre_exact_range.Hand

open Idealize.ShloMosaic Idealize.ShloMosaic.ValueIdx
open Cert.Pre_exact_range Cert.Reals

/-- The side conditions the precondition's operations take. -/
theorem facts : Facts := by constructor <;> decide

variable [Facts]
open Facts

/-- Every entry's magnitude is below infinity. -/
def allFinite {s : Shape} {axes : List (Fin s.rank)} (hb : S_.BroadcastsInDim s (![] : Fin 0 → Fin s.rank)) (hr : s.ReducesTo axes S_)
    (x : FVec Ideal s .f32) : IVec S_ 1 :=
  Host.reduce IntOp.andi (cmpf .olt (Host.absf x) (broadcastInDim s ![] hb (constant S_ .f32 0x7F800000#32))) (constantI S_ 1 1#1) hr h_S_

/-- The magnitudes' products are within the bound. -/
def allSmall (a : FVec Ideal S10000x10000 .f32) (q : FVec Ideal S10000x128 .f32) : IVec S_ 1 :=
  Host.reduce IntOp.andi (cmpf .ole (Host.dotGeneral dot_S10000x10000_S10000x128_S10000x128_1_0_0_1_n_n none a (Host.absf q))
    (broadcastInDim S10000x128 ![] bcast_S_S10000x128 (constant S_ .f32 0x4C800000#32))) (constantI S_ 1 1#1) reducesTo_S10000x128_S_d0_1 h_S_

/-- The magnitudes of the adjacency's codes. -/
def codeMag (x1 : FVec Ideal S10000x10000 .f32) : FVec Ideal S10000x10000 .f32 :=
  Host.absf (subf (ReferenceIdeal.Read.val_main_v3 (F := Ideal) x1) (broadcastInDim S10000x10000 ![] bcast_S_S10000x10000 (constant S_ .f32 0x43000000#32)))

section Split
variable (x0 : FVec Ideal S10000x128 .f32) (x1 : FVec Ideal S10000x10000 .f32) (x2 : FVec Ideal S128x128 .f32) (x3 x4 x5 : FVec Ideal S128 .f32)
    (x6 : FVec Ideal S128x128 .f32) (x7 x8 x9 : FVec Ideal S128 .f32) (x10 : FVec Ideal S128x64 .f32) (x11 : FVec Ideal S64 .f32)

/-- The precondition is the conjunction of the six finiteness tests and the two bounds, over the reference's own codes. -/
theorem fn_eq : fn (F := Ideal) x0 x1 x2 x3 x4 x5 x6 x7 x8 x9 x10 x11 =
    andi (andi (andi (andi (andi (andi (andi
      (allFinite bcast_S_S128 reducesTo_S128_S_d0 x4) (allFinite bcast_S_S128 reducesTo_S128_S_d0 x5))
      (allFinite bcast_S_S128x128 reducesTo_S128x128_S_d0_1 x6)) (allFinite bcast_S_S128 reducesTo_S128_S_d0 x8))
      (allFinite bcast_S_S128 reducesTo_S128_S_d0 x9)) (allFinite bcast_S_S128x64 reducesTo_S128x64_S_d0_1 x10))
      (allSmall (codeMag x1) (ReferenceIdeal.Read.val_main_v17 (F := Ideal) x0 x2)))
      (allSmall (codeMag x1) (ReferenceIdeal.Read.val_main_v26 (F := Ideal) x0 x2)) := rfl

end Split

/-- The one index of a scalar. -/
abbrev i0 : S_.Idx := Shape.Idx.first h_S_

instance : Subsingleton S_.Idx := ⟨fun _ _ => funext fun a => a.elim0⟩

/-- An array of finite entries is an array of reals. -/
theorem real_of_finite {s : Shape} {axes : List (Fin s.rank)} (hb : S_.BroadcastsInDim s (![] : Fin 0 → Fin s.rank)) (hr : s.ReducesTo axes S_)
    (x : FVec Ideal s .f32) (h : allFinite hb hr x i0 = 1#1) : (x : s.Idx → EReal) = toE fun i => (x i : EReal).toReal := by
  funext i
  have e : cmpf .olt (Host.absf x) (broadcastInDim s ![] hb (constant (F := Ideal) S_ .f32 0x7F800000#32)) i = 1#1 :=
    Host.reduce_andi_all _ _ hr h_S_ i0 h i
  have e' : Ideal.cmp .olt (max (x i : EReal) (-(x i : EReal))) (FloatOps.ofBits (F := Ideal) .f32 0x7F800000#32) = 1#1 := e
  rw [word_inf] at e'
  have hlt : max (x i : EReal) (-(x i : EReal)) < ⊤ := by
    by_contra hn
    simp [Ideal.cmp, hn] at e'
  have h1 : (x i : EReal) ≠ ⊤ := fun ht => by rw [ht] at hlt; simp at hlt
  have h2 : (x i : EReal) ≠ ⊥ := fun ht => by rw [ht] at hlt; simp at hlt
  exact (EReal.coe_toReal h1 h2).symm

theorem matrix_of_finite {a b : ℕ} {axes : List (Fin (⟨2, ![a, b]⟩ : Shape).rank)}
    (hb : S_.BroadcastsInDim ⟨2, ![a, b]⟩ (![] : Fin 0 → Fin (⟨2, ![a, b]⟩ : Shape).rank)) (hr : (⟨2, ![a, b]⟩ : Shape).ReducesTo axes S_)
    (x : FVec Ideal ⟨2, ![a, b]⟩ .f32) (h : allFinite hb hr x i0 = 1#1) :
    ∃ f : Fin a → Fin b → ℝ, (x : (⟨2, ![a, b]⟩ : Shape).Idx → EReal) = toE (r2 f) :=
  ⟨fun i j => (x (ix2 i j) : EReal).toReal, (real_of_finite hb hr x h).trans (toE_r2_congr fun _ _ => rfl)⟩

theorem vector_of_finite {b : ℕ} {axes : List (Fin (⟨1, ![b]⟩ : Shape).rank)}
    (hb : S_.BroadcastsInDim ⟨1, ![b]⟩ (![] : Fin 0 → Fin (⟨1, ![b]⟩ : Shape).rank)) (hr : (⟨1, ![b]⟩ : Shape).ReducesTo axes S_)
    (x : FVec Ideal ⟨1, ![b]⟩ .f32) (h : allFinite hb hr x i0 = 1#1) :
    ∃ f : Fin b → ℝ, (x : (⟨1, ![b]⟩ : Shape).Idx → EReal) = toE (r1 f) :=
  ⟨fun j => (x (ix1 j) : EReal).toReal, (real_of_finite hb hr x h).trans (m1_congr fun _ => rfl)⟩

/-- Any array of rank two or one is one of extended reals. -/
theorem matrix_of {a b : ℕ} (x : FVec Ideal ⟨2, ![a, b]⟩ .f32) : ∃ f : Fin a → Fin b → EReal, (x : (⟨2, ![a, b]⟩ : Shape).Idx → EReal) = m2 f :=
  ⟨fun i j => x (ix2 i j), m2_congr fun _ _ => rfl⟩

theorem vector_of {b : ℕ} (x : FVec Ideal ⟨1, ![b]⟩ .f32) : ∃ f : Fin b → EReal, (x : (⟨1, ![b]⟩ : Shape).Idx → EReal) = m1 f :=
  ⟨fun j => x (ix1 j), m1_congr fun _ => rfl⟩

/-- The magnitudes of a real matrix. -/
theorem abs_up {a b : ℕ} (f : Fin a → Fin b → ℝ) : Host.absf (F := Ideal) (φ := .f32) (m2 (up f)) = m2 (up fun i j => |f i j|) :=
  (abs2 _).trans (congrArg m2 (funext fun i => funext fun j => abs_real _))

/-- The magnitudes of the codes are real. -/
theorem codeMag_real (a : Fin 10000 → Fin 10000 → EReal) : codeMag (m2 a) = m2 (up fun i k => |(acode a i k : ℝ)|) := by
  have e : subf (F := Ideal) (φ := .f32) (m2 (up fun i k => (acode a i k : ℝ) + 128)) (m2 fun _ _ => ((128 : ℝ) : EReal)) = m2 (up fun i k => (acode a i k : ℝ)) :=
    (sub2 _ _).trans (congrArg m2 (funext fun i => funext fun k => by rw [← EReal.coe_sub, add_sub_cancel_right]))
  unfold codeMag
  rw [ReferenceIdeal.Hand.v3_real, toE_constant _ _ word_128, bc_0_2]
  exact (congrArg (Host.absf (F := Ideal) (φ := .f32)) e).trans (abs_up _)

/-- The bound, over the reals. -/
theorem small_real (a : Fin 10000 → Fin 10000 → EReal) (q : Fin 10000 → Fin 128 → ℝ) (h : allSmall (codeMag (m2 a)) (m2 (up q)) i0 = 1#1)
    (i : Fin 10000) (j : Fin 128) : (∑ k, |(acode a i k : ℝ)| * |q k j|) ≤ 67108864 := by
  unfold allSmall at h
  rw [codeMag_real, abs_up, dot2 dot_S10000x10000_S10000x128_S10000x128_1_0_0_1_n_n rfl, mmE_up, toE_constant _ _ word_bound, bc_0_2] at h
  have e := Host.reduce_andi_all _ _ _ h_S_ i0 h (ix2 i j)
  have e' : Ideal.cmp .ole ((mm (fun i k => |(acode a i k : ℝ)|) (fun k j => |q k j|) i j : ℝ) : EReal) ((67108864 : ℝ) : EReal) = 1#1 := e
  by_contra hn
  have hn' : ¬ ((mm (fun i k => |(acode a i k : ℝ)|) (fun k j => |q k j|) i j : ℝ) : EReal) ≤ ((67108864 : ℝ) : EReal) :=
    fun hle => hn (EReal.coe_le_coe_iff.mp hle)
  simp [Ideal.cmp, hn'] at e'

/-- The precondition gives real scales, shifts and later weights, and the two bounds. -/
theorem reals_of_pre (x0 : FVec Ideal S10000x128 .f32) (x1 : FVec Ideal S10000x10000 .f32) (x2 : FVec Ideal S128x128 .f32) (x3 x4 x5 : FVec Ideal S128 .f32)
    (x6 : FVec Ideal S128x128 .f32) (x7 x8 x9 : FVec Ideal S128 .f32) (x10 : FVec Ideal S128x64 .f32) (x11 : FVec Ideal S64 .f32)
    (h : fn (F := Ideal) x0 x1 x2 x3 x4 x5 x6 x7 x8 x9 x10 x11 = fun _ => 1#1) :
    ∃ (x : Fin 10000 → Fin 128 → EReal) (adj : Fin 10000 → Fin 10000 → EReal) (w1 : Fin 128 → Fin 128 → EReal) (b1 : Fin 128 → EReal)
      (g1 e1 : Fin 128 → ℝ) (w2 : Fin 128 → Fin 128 → ℝ) (b2 : Fin 128 → EReal) (g2 e2 : Fin 128 → ℝ) (w3 : Fin 128 → Fin 64 → ℝ) (b3 : Fin 64 → EReal),
      (x0 = m2 x ∧ x1 = m2 adj ∧ x2 = m2 w1 ∧ x3 = m1 b1 ∧ x4 = toE (r1 g1) ∧ x5 = toE (r1 e1) ∧ x6 = toE (r2 w2)
        ∧ x7 = m1 b2 ∧ x8 = toE (r1 g2) ∧ x9 = toE (r1 e2) ∧ x10 = toE (r2 w3) ∧ x11 = m1 b3)
      ∧ KernelIdeal.Hand.InRange adj (stand (mmE x w1)) := by
  have h' := congrFun h i0
  rw [fn_eq] at h'
  obtain ⟨h', s2⟩ := IntOp.andi_eq_one.1 h'
  obtain ⟨h', s1⟩ := IntOp.andi_eq_one.1 h'
  obtain ⟨h', f10⟩ := IntOp.andi_eq_one.1 h'
  obtain ⟨h', f9⟩ := IntOp.andi_eq_one.1 h'
  obtain ⟨h', f8⟩ := IntOp.andi_eq_one.1 h'
  obtain ⟨h', f6⟩ := IntOp.andi_eq_one.1 h'
  obtain ⟨f4, f5⟩ := IntOp.andi_eq_one.1 h'
  obtain ⟨x, rfl⟩ := matrix_of x0
  obtain ⟨adj, rfl⟩ := matrix_of x1
  obtain ⟨w1, rfl⟩ := matrix_of x2
  obtain ⟨b1, rfl⟩ := vector_of x3
  obtain ⟨g1, rfl⟩ := vector_of_finite _ _ x4 f4
  obtain ⟨e1, rfl⟩ := vector_of_finite _ _ x5 f5
  obtain ⟨w2, rfl⟩ := matrix_of_finite _ _ x6 f6
  obtain ⟨b2, rfl⟩ := vector_of x7
  obtain ⟨g2, rfl⟩ := vector_of_finite _ _ x8 f8
  obtain ⟨e2, rfl⟩ := vector_of_finite _ _ x9 f9
  obtain ⟨w3, rfl⟩ := matrix_of_finite _ _ x10 f10
  obtain ⟨b3, rfl⟩ := vector_of x11
  refine ⟨x, adj, w1, b1, g1, e1, w2, b2, g2, e2, w3, b3, ⟨rfl, rfl, rfl, rfl, rfl, rfl, rfl, rfl, rfl, rfl, rfl, rfl⟩, ?_, ?_⟩
  · refine small_real adj (fun k j => (code1 (stand (mmE x w1)) k j : ℝ)) ?_
    rw [← ReferenceIdeal.Hand.v17_real _ _ _ (ReferenceIdeal.Hand.v6_real x w1)]; exact s1
  · refine small_real adj (fun k j => (code2 (stand (mmE x w1)) k j : ℝ)) ?_
    rw [← ReferenceIdeal.Hand.v26_real _ _ _ (ReferenceIdeal.Hand.v6_real x w1)]; exact s2

end Cert.Pre_exact_range.Hand

end
-- ==== Proof.lean ====
/- The claims of this certificate: the frames, the named constant, and that kernel and reference leave the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Run
public import proofs.«01_k».proof.Proof.KernVal
public import proofs.«01_k».proof.Proof.RefVal
public import proofs.«01_k».proof.Proof.PreVal

@[expose] public section

noncomputable section

namespace Cert.Proof

open Idealize.ShloMosaic Idealize.SL.Sem Cert.Kernel

/-- At the bits a named constant is its literal. -/
@[reducible] def namedBits : Named Bits where
  named _ _ _ b := FloatOps.ofBits _ b

set_option maxHeartbeats 4000000 in
/-- The printed program's bodies are the idealized program's, read at the bits. -/
theorem bodies_eq : Cert.Kernel.defs₀ (F := Bits) =
    letI := namedBits
    Cert.KernelIdeal.defs₀ (F := Bits) := by
  funext p l a
  cases p with
  | tc =>
    match l, a with
    | 0, (t, s) => rfl
    | 1, (t, s) => rfl
    | 2, (t, s) => rfl
  | scScalar _ => rfl
  | scVector _ _ => rfl

set_option maxHeartbeats 4000000 in
/-- So are the two body tables. -/
theorem defs_eq : Cert.Kernel.defs (F := Bits) =
    letI := namedBits
    Cert.KernelIdeal.defs (F := Bits) :=
  congrArg (Pipeline.defs Cert.Kernel.pcfgs) bodies_eq

set_option maxHeartbeats 4000000 in
/-- The frame of the kernel as printed, from the one run of the idealized program read at the bits. -/
theorem frame_kernel : Cert.quiescent_Kernel := fun m ρ _ =>
  letI := namedBits
  Eq.mpr (congrArg (fun D => θ_run D (onTc Cert.Kernel.main) ⟨m, fun _ => 0, ρ⟩ _) defs_eq)
    (Cert.KernelIdeal.Hand.frame (F := Bits) m ρ)

/-- The frame of the idealized kernel. -/
theorem frame_ideal : Cert.quiescent_KernelIdeal := fun m ρ _ => Cert.KernelIdeal.Hand.frame (F := Ideal) m ρ

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the kernel's literal at the bits and 1/255 at the reals. -/
theorem preserves_named : Cert.preserves_Kernel_KernelIdeal :=
  IdealRules.named_const.statement Cert.KernelIdeal.κ "inv255" .f32 0x3B808081#32 ((1 / 255 : ℝ) : EReal) rfl

/-- From memories agreeing on the arguments, within the precondition, the two programs leave the same result. -/
theorem algebraic_net : Cert.algebraic_KernelIdeal_ReferenceIdeal_pre_exact_range (hPre_exact_range := Cert.Pre_exact_range.Hand.facts) := by
  intro m g m' g' hp hm
  refine ⟨fun c => (KernelIdeal.Hand.dat2 (KernelIdeal.Hand.V3 m) c).arrAt 9 KernelIdeal.cfg2.N, KernelIdeal.Hand.result (F := Ideal) m g, ?_⟩
  refine (θ_run Cert.ReferenceIdeal.defs _ _).mono (fun r h c => ⟨(h c).1.trans ?_, (h c).2⟩) (Cert.ReferenceIdeal.Value.run (F := Ideal) m' g')
  letI := Cert.Pre_exact_range.Hand.facts
  obtain ⟨x, adj, w1, b1, g1, e1, w2, b2, g2, e2, w3, b3, ⟨h0, h1, h2, h3, h4, h5, h6, h7, h8, h9, h10, h11⟩, hr⟩ :=
    Cert.Pre_exact_range.Hand.reals_of_pre _ _ _ _ _ _ _ _ _ _ _ _ (hp c)
  obtain ⟨k0, k1, k2, k3, k4, k5, k6, k7, k8, k9, k10, k11⟩ := hm c
  have A : KernelIdeal.Hand.Args m c x adj w1 b1 g1 e1 w2 b2 g2 e2 w3 b3 := ⟨h0, h1, h2, h3, h4, h5, h6, h7, h8, h9, h10, h11⟩
  refine (Cert.ReferenceIdeal.Read.val_main_v89_eq _).trans (Eq.trans ?_ (KernelIdeal.Hand.kernel_net m c A hr).symm)
  exact Cert.ReferenceIdeal.Hand.reference_args _ _ _ _ _ _ _ _ _ _ _ _ x adj w1 b1 g1 e1 w2 b2 g2 e2 w3 b3 (k0.trans h0) (k1.trans h1) (k2.trans h2) (k3.trans h3)
    (k4.trans h4) (k5.trans h5) (k6.trans h6) (k7.trans h7) (k8.trans h8) (k9.trans h9) (k10.trans h10) (k11.trans h11)

/-- Every claim of the certificate. -/
theorem claim : Cert.Claim := ⟨Cert.Kernel.Gen.facts, Cert.KernelIdeal.Gen.facts, Cert.ReferenceIdeal.Gen.facts,
  Cert.Pre_exact_range.Hand.facts, frame_kernel, frame_ideal, fun m ρ _ => frame_ideal m ρ trivial, frame_reference,
  fun m ρ _ => frame_reference m ρ trivial, preserves_named, algebraic_net⟩

end Cert.Proof

end
